-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_routed_KernelIdeal [hPre_routed_KernelIdeal : Cert.Pre_routed_KernelIdeal.Facts] (m : (ℓ : Loc Cert.KernelIdeal.nD Cert.KernelIdeal.τ Cert.KernelIdeal.sig) → Buf (Elt Ideal) ℓ) : Prop :=
  ∀ c : Dev Cert.KernelIdeal.nD,
    (Cert.Pre_routed_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_routed_ReferenceIdeal [hPre_routed_ReferenceIdeal : Cert.Pre_routed_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_routed_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_routed_KernelIdeal [hKernelIdeal : Cert.KernelIdeal.Facts] [hPre_routed_KernelIdeal : Cert.Pre_routed_KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_routed_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_routed_ReferenceIdeal [hReferenceIdeal : Cert.ReferenceIdeal.Facts] [hPre_routed_ReferenceIdeal : Cert.Pre_routed_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_routed_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  True

def algebraic_KernelIdeal_ReferenceIdeal_pre_routed_KernelIdeal [hKernelIdeal : Cert.KernelIdeal.Facts] [hReferenceIdeal : Cert.ReferenceIdeal.Facts] [hPre_routed_KernelIdeal : Cert.Pre_routed_KernelIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_routed_KernelIdeal m →
    (∀ c : Dev Cert.KernelIdeal.nD,
      m ((c.tc : Thread Cert.KernelIdeal.nD Cert.KernelIdeal.τ).loc Cert.KernelIdeal.main_arg0) = Layout.block ⟨2, ![512, 256]⟩ ⟨2, ![4096, 256]⟩ 0 8 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)
      ∧ m ((c.tc : Thread Cert.KernelIdeal.nD Cert.KernelIdeal.τ).loc Cert.KernelIdeal.main_arg2) = Layout.block ⟨2, ![512, 1]⟩ ⟨2, ![4096, 1]⟩ 0 8 c (m' (((0 : Dev Cert.ReferenceIdeal.nD).tc : Thread Cert.ReferenceIdeal.nD Cert.ReferenceIdeal.τ).loc Cert.ReferenceIdeal.main_arg2))
      ∧ m ((c.tc : Thread Cert.KernelIdeal.nD Cert.KernelIdeal.τ).loc Cert.KernelIdeal.main_arg3) = Layout.block ⟨3, ![2, 256, 512]⟩ ⟨3, ![16, 256, 512]⟩ 0 8 c (m' (((0 : Dev Cert.ReferenceIdeal.nD).tc : Thread Cert.ReferenceIdeal.nD Cert.ReferenceIdeal.τ).loc Cert.ReferenceIdeal.main_arg3))) →
    ∃ (v0 : Buf (Elt Ideal) (((0 : Dev Cert.ReferenceIdeal.nD).tc : Thread Cert.ReferenceIdeal.nD Cert.ReferenceIdeal.τ).loc Cert.ReferenceIdeal.main_v41)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.block ⟨2, ![512, 512]⟩ ⟨2, ![4096, 512]⟩ 0 8 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v41) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_routed_KernelIdeal : Cert.Pre_routed_KernelIdeal.Facts) (hPre_routed_ReferenceIdeal : Cert.Pre_routed_ReferenceIdeal.Facts),
    quiescent_Kernel (hKernel := hKernel)
    ∧ quiescent_KernelIdeal (hKernelIdeal := hKernelIdeal)
    ∧ quiescent_KernelIdeal_pre_routed_KernelIdeal (hKernelIdeal := hKernelIdeal) (hPre_routed_KernelIdeal := hPre_routed_KernelIdeal)
    ∧ quiescent_ReferenceIdeal (hReferenceIdeal := hReferenceIdeal)
    ∧ quiescent_ReferenceIdeal_pre_routed_ReferenceIdeal (hReferenceIdeal := hReferenceIdeal) (hPre_routed_ReferenceIdeal := hPre_routed_ReferenceIdeal)
    ∧ preserves_Kernel_KernelIdeal
    ∧ algebraic_KernelIdeal_ReferenceIdeal_pre_routed_KernelIdeal (hKernelIdeal := hKernelIdeal) (hReferenceIdeal := hReferenceIdeal) (hPre_routed_KernelIdeal := hPre_routed_KernelIdeal)
-- ==== Pre_routed_KernelIdeal.lean ====
abbrev S512x256 : Shape := ⟨2, ![512, 256]⟩
abbrev S256x16 : Shape := ⟨2, ![256, 16]⟩
abbrev S512x1 : Shape := ⟨2, ![512, 1]⟩
abbrev S2x256x512 : Shape := ⟨3, ![2, 256, 512]⟩
abbrev S_ : Shape := ⟨0, ![]⟩

class Facts : Prop where
  bcast_S_S512x1 : S_.BroadcastsInDim S512x1 (![] : Fin 0 → Fin S512x1.rank)

variable [Facts]

def fn {F : FTy → Type} [FloatOps F] (main_arg0 : FVec F S512x256 .bf16) (main_arg1 : FVec F S256x16 .bf16) (main_arg2 : IVec S512x1 32) (main_arg3 : FVec F S2x256x512 .bf16) : IVec S512x1 1 :=
  let main_c : IVec S_ 32 := constantI S_ 32 16#32
  let main_v0 : IVec S512x1 32 := broadcastInDim S512x1 ![] bcast_S_S512x1 main_c
  let main_v1 : IVec S512x1 1 := cmpi .slt main_arg2 main_v0
  let main_c_0 : IVec S_ 32 := constantI S_ 32 17#32
  let main_v2 : IVec S512x1 32 := broadcastInDim S512x1 ![] bcast_S_S512x1 main_c_0
  let main_v3 : IVec S512x1 1 := cmpi .sgt main_arg2 main_v2
  let main_v4 : IVec S512x1 1 := ori main_v1 main_v3
  main_v4
-- ==== Pre_routed_ReferenceIdeal.lean ====
abbrev S4096x256 : Shape := ⟨2, ![4096, 256]⟩
abbrev S256x16 : Shape := ⟨2, ![256, 16]⟩
abbrev S4096x1 : Shape := ⟨2, ![4096, 1]⟩
abbrev S16x256x512 : Shape := ⟨3, ![16, 256, 512]⟩
abbrev S_ : Shape := ⟨0, ![]⟩

class Facts : Prop where
  bcast_S_S4096x1 : S_.BroadcastsInDim S4096x1 (![] : Fin 0 → Fin S4096x1.rank)

variable [Facts]

def fn {F : FTy → Type} [FloatOps F] (main_arg0 : FVec F S4096x256 .bf16) (main_arg1 : FVec F S256x16 .bf16) (main_arg2 : IVec S4096x1 32) (main_arg3 : FVec F S16x256x512 .bf16) : IVec S4096x1 1 :=
  let main_c : IVec S_ 32 := constantI S_ 32 16#32
  let main_v0 : IVec S4096x1 32 := broadcastInDim S4096x1 ![] bcast_S_S4096x1 main_c
  let main_v1 : IVec S4096x1 1 := cmpi .slt main_arg2 main_v0
  let main_c_0 : IVec S_ 32 := constantI S_ 32 17#32
  let main_v2 : IVec S4096x1 32 := broadcastInDim S4096x1 ![] bcast_S_S4096x1 main_c_0
  let main_v3 : IVec S4096x1 1 := cmpi .sgt main_arg2 main_v2
  let main_v4 : IVec S4096x1 1 := ori main_v1 main_v3
  main_v4
-- ==== Kernel.lean ====
abbrev S512x256 : Shape := ⟨2, ![512, 256]⟩
abbrev S256x16 : Shape := ⟨2, ![256, 16]⟩
abbrev S512x1 : Shape := ⟨2, ![512, 1]⟩
abbrev S2x256x512 : Shape := ⟨3, ![2, 256, 512]⟩
abbrev S512x512 : Shape := ⟨2, ![512, 512]⟩
abbrev S8x2x256x512 : Shape := ⟨4, ![8, 2, 256, 512]⟩
abbrev S8x128 : Shape := ⟨2, ![8, 128]⟩
abbrev S7 : Shape := ⟨1, ![7]⟩
abbrev S_ : Shape := ⟨0, ![]⟩
abbrev S2x512 : Shape := ⟨2, ![2, 512]⟩
abbrev S2x1x512 : Shape := ⟨3, ![2, 1, 512]⟩
abbrev S2x1 : Shape := ⟨2, ![2, 1]⟩
abbrev S2x1x1 : Shape := ⟨3, ![2, 1, 1]⟩
abbrev S512x128 : Shape := ⟨2, ![512, 128]⟩
abbrev S128 : Shape := ⟨1, ![128]⟩
abbrev S1x128 : Shape := ⟨2, ![1, 128]⟩
abbrev S1x16 : Shape := ⟨2, ![1, 16]⟩
abbrev S1x2 : Shape := ⟨2, ![1, 2]⟩
abbrev S1x110 : Shape := ⟨2, ![1, 110]⟩
abbrev S1 : Shape := ⟨1, ![1]⟩
abbrev S1x2x256x512 : Shape := ⟨4, ![1, 2, 256, 512]⟩
abbrev S1x1x1 : Shape := ⟨3, ![1, 1, 1]⟩
abbrev S1x1 : Shape := ⟨2, ![1, 1]⟩
abbrev S512 : Shape := ⟨1, ![512]⟩

abbrev nBuf : Space → Nat
  | .hbm => 5
  | .vmem => 6
  | .smem => 0
  | _ => 0

abbrev bufTy : (tb : Table) → Fin (tcTables nBuf tb) → BufTy
  | .hbm, ⟨0, _⟩ => ⟨S512x256, .bf16⟩
  | .hbm, ⟨1, _⟩ => ⟨S256x16, .bf16⟩
  | .hbm, ⟨2, _⟩ => ⟨S512x1, .i32⟩
  | .hbm, ⟨3, _⟩ => ⟨S2x256x512, .bf16⟩
  | .hbm, ⟨4, _⟩ => ⟨S512x512, .f32⟩
  | .local _ .vmem, ⟨0, _⟩ => ⟨S512x256, .bf16⟩
  | .local _ .vmem, ⟨1, _⟩ => ⟨S512x1, .i32⟩
  | .local _ .vmem, ⟨2, _⟩ => ⟨S2x256x512, .bf16⟩
  | .local _ .vmem, ⟨3, _⟩ => ⟨S512x512, .f32⟩
  | .local _ .vmem, ⟨4, _⟩ => ⟨S8x2x256x512, .i8⟩
  | .local _ .vmem, ⟨5, _⟩ => ⟨S8x128, .f32⟩
  | _, _ => ⟨S512x256, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 1 → Bool
  | ⟨0, _⟩ => false
  | _ => false

abbrev dmaSemScoped : Fin 32 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | _ => false

abbrev sig : RefSig :=
  (ofTc nBuf bufTy 1 32 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v1 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_scratch0 : Ref sig .tc := ⟨.vmem, 4, rfl⟩
abbrev cc0_scratch1 : Ref sig .tc := ⟨.vmem, 5, rfl⟩
abbrev cc0_sem0_0 : DmaSem sig := 0
abbrev cc0_sem1_0 : DmaSem sig := 1
abbrev cc0_sem2_0 : DmaSem sig := 2
abbrev cc0_sem3_0 : DmaSem sig := 3
abbrev barrier0 : Sem sig := 0

abbrev nD : Nat := 8
abbrev τ : Topo := Topo.v7x

variable {F : FTy → Type} [FloatOps F]

abbrev grid0 : Pipeline.Grid := .none

def k0_dev1 (d0 : Dev nD) : Nat :=
  let c0_i32 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v4 : BitVec 32 := Scalar.addi v2 c1_i32_0
  let c8_i32_1 : BitVec 32 := 8#32
  let v5 : BitVec 32 := Scalar.remsi v4 c8_i32_1
  let c1_i32_3 : BitVec 32 := 1#32
  let v6 : BitVec 32 := Scalar.muli v5 c1_i32_3
  let v7 : BitVec 32 := Scalar.addi c0_i32 v6
  v7.toNat
def k0_dev2 (d0 : Dev nD) : Nat :=
  let c0_i32_7 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32 : BitVec 32 := 2#32
  let v8 : BitVec 32 := Scalar.addi v2 c2_i32
  let c8_i32_4 : BitVec 32 := 8#32
  let v9 : BitVec 32 := Scalar.remsi v8 c8_i32_4
  let c1_i32_6 : BitVec 32 := 1#32
  let v10 : BitVec 32 := Scalar.muli v9 c1_i32_6
  let v11 : BitVec 32 := Scalar.addi c0_i32_7 v10
  v11.toNat
def k0_dev3 (d0 : Dev nD) : Nat :=
  let c0_i32_11 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32 : BitVec 32 := 3#32
  let v12 : BitVec 32 := Scalar.addi v2 c3_i32
  let c8_i32_8 : BitVec 32 := 8#32
  let v13 : BitVec 32 := Scalar.remsi v12 c8_i32_8
  let c1_i32_10 : BitVec 32 := 1#32
  let v14 : BitVec 32 := Scalar.muli v13 c1_i32_10
  let v15 : BitVec 32 := Scalar.addi c0_i32_11 v14
  v15.toNat
def k0_dev4 (d0 : Dev nD) : Nat :=
  let c0_i32_15 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v16 : BitVec 32 := Scalar.addi v2 c4_i32
  let c8_i32_12 : BitVec 32 := 8#32
  let v17 : BitVec 32 := Scalar.remsi v16 c8_i32_12
  let c1_i32_14 : BitVec 32 := 1#32
  let v18 : BitVec 32 := Scalar.muli v17 c1_i32_14
  let v19 : BitVec 32 := Scalar.addi c0_i32_15 v18
  v19.toNat
def k0_dev5 (d0 : Dev nD) : Nat :=
  let c0_i32_19 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c5_i32 : BitVec 32 := 5#32
  let v20 : BitVec 32 := Scalar.addi v2 c5_i32
  let c8_i32_16 : BitVec 32 := 8#32
  let v21 : BitVec 32 := Scalar.remsi v20 c8_i32_16
  let c1_i32_18 : BitVec 32 := 1#32
  let v22 : BitVec 32 := Scalar.muli v21 c1_i32_18
  let v23 : BitVec 32 := Scalar.addi c0_i32_19 v22
  v23.toNat
def k0_dev6 (d0 : Dev nD) : Nat :=
  let c0_i32_23 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c6_i32 : BitVec 32 := 6#32
  let v24 : BitVec 32 := Scalar.addi v2 c6_i32
  let c8_i32_20 : BitVec 32 := 8#32
  let v25 : BitVec 32 := Scalar.remsi v24 c8_i32_20
  let c1_i32_22 : BitVec 32 := 1#32
  let v26 : BitVec 32 := Scalar.muli v25 c1_i32_22
  let v27 : BitVec 32 := Scalar.addi c0_i32_23 v26
  v27.toNat
def k0_dev7 (d0 : Dev nD) : Nat :=
  let c0_i32_27 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32 : BitVec 32 := 7#32
  let v28 : BitVec 32 := Scalar.addi v2 c7_i32
  let c8_i32_24 : BitVec 32 := 8#32
  let v29 : BitVec 32 := Scalar.remsi v28 c8_i32_24
  let c1_i32_26 : BitVec 32 := 1#32
  let v30 : BitVec 32 := Scalar.muli v29 c1_i32_26
  let v31 : BitVec 32 := Scalar.addi c0_i32_27 v30
  v31.toNat
def k0_off1 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v58 : Index := Scalar.indexCast v2
  let c0_39 : Index := 0#32
  ![v58.toNat, 0]
def k0_off2 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_46 : BitVec 32 := 0#32
  ![v2.toNat, 0]
def k0_dev8 (d0 : Dev nD) : Nat :=
  let c0_i32_45 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_40 : BitVec 32 := 1#32
  let v62 : BitVec 32 := Scalar.addi v2 c1_i32_40
  let c8_i32_41 : BitVec 32 := 8#32
  let v63 : BitVec 32 := Scalar.remsi v62 c8_i32_41
  let c1_i32_44 : BitVec 32 := 1#32
  let v64 : BitVec 32 := Scalar.muli v63 c1_i32_44
  let v65 : BitVec 32 := Scalar.addi c0_i32_45 v64
  v65.toNat
def k0_dev9 (d0 : Dev nD) : Nat :=
  let c0_i32_53 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32_48 : BitVec 32 := 2#32
  let v72 : BitVec 32 := Scalar.addi v2 c2_i32_48
  let c8_i32_49 : BitVec 32 := 8#32
  let v73 : BitVec 32 := Scalar.remsi v72 c8_i32_49
  let c1_i32_52 : BitVec 32 := 1#32
  let v74 : BitVec 32 := Scalar.muli v73 c1_i32_52
  let v75 : BitVec 32 := Scalar.addi c0_i32_53 v74
  v75.toNat
def k0_dev10 (d0 : Dev nD) : Nat :=
  let c0_i32_61 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_56 : BitVec 32 := 3#32
  let v82 : BitVec 32 := Scalar.addi v2 c3_i32_56
  let c8_i32_57 : BitVec 32 := 8#32
  let v83 : BitVec 32 := Scalar.remsi v82 c8_i32_57
  let c1_i32_60 : BitVec 32 := 1#32
  let v84 : BitVec 32 := Scalar.muli v83 c1_i32_60
  let v85 : BitVec 32 := Scalar.addi c0_i32_61 v84
  v85.toNat
def k0_dev11 (d0 : Dev nD) : Nat :=
  let c0_i32_69 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_64 : BitVec 32 := 4#32
  let v92 : BitVec 32 := Scalar.addi v2 c4_i32_64
  let c8_i32_65 : BitVec 32 := 8#32
  let v93 : BitVec 32 := Scalar.remsi v92 c8_i32_65
  let c1_i32_68 : BitVec 32 := 1#32
  let v94 : BitVec 32 := Scalar.muli v93 c1_i32_68
  let v95 : BitVec 32 := Scalar.addi c0_i32_69 v94
  v95.toNat
def k0_dev12 (d0 : Dev nD) : Nat :=
  let c0_i32_77 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c5_i32_72 : BitVec 32 := 5#32
  let v102 : BitVec 32 := Scalar.addi v2 c5_i32_72
  let c8_i32_73 : BitVec 32 := 8#32
  let v103 : BitVec 32 := Scalar.remsi v102 c8_i32_73
  let c1_i32_76 : BitVec 32 := 1#32
  let v104 : BitVec 32 := Scalar.muli v103 c1_i32_76
  let v105 : BitVec 32 := Scalar.addi c0_i32_77 v104
  v105.toNat
def k0_dev13 (d0 : Dev nD) : Nat :=
  let c0_i32_85 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c6_i32_80 : BitVec 32 := 6#32
  let v112 : BitVec 32 := Scalar.addi v2 c6_i32_80
  let c8_i32_81 : BitVec 32 := 8#32
  let v113 : BitVec 32 := Scalar.remsi v112 c8_i32_81
  let c1_i32_84 : BitVec 32 := 1#32
  let v114 : BitVec 32 := Scalar.muli v113 c1_i32_84
  let v115 : BitVec 32 := Scalar.addi c0_i32_85 v114
  v115.toNat
def k0_dev14 (d0 : Dev nD) : Nat :=
  let c0_i32_93 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32_88 : BitVec 32 := 7#32
  let v122 : BitVec 32 := Scalar.addi v2 c7_i32_88
  let c8_i32_89 : BitVec 32 := 8#32
  let v123 : BitVec 32 := Scalar.remsi v122 c8_i32_89
  let c1_i32_92 : BitVec 32 := 1#32
  let v124 : BitVec 32 := Scalar.muli v123 c1_i32_92
  let v125 : BitVec 32 := Scalar.addi c0_i32_93 v124
  v125.toNat
def k0_off3 (d0 : Dev nD) : Fin 4 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v137 : Index := Scalar.indexCast v2
  let c0_96 : Index := 0#32
  let c0_97 : Index := 0#32
  let c0_98 : Index := 0#32
  ![v137.toNat, 0, 0, 0]
def k0_off4 (d0 : Dev nD) : Fin 4 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_105 : BitVec 32 := 0#32
  let c0_i32_106 : BitVec 32 := 0#32
  let c0_i32_107 : BitVec 32 := 0#32
  ![v2.toNat, 0, 0, 0]
def k0_dev15 (d0 : Dev nD) : Nat :=
  let c0_i32_104 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_99 : BitVec 32 := 1#32
  let v141 : BitVec 32 := Scalar.addi v2 c1_i32_99
  let c8_i32_100 : BitVec 32 := 8#32
  let v142 : BitVec 32 := Scalar.remsi v141 c8_i32_100
  let c1_i32_103 : BitVec 32 := 1#32
  let v143 : BitVec 32 := Scalar.muli v142 c1_i32_103
  let v144 : BitVec 32 := Scalar.addi c0_i32_104 v143
  v144.toNat
def k0_dev16 (d0 : Dev nD) : Nat :=
  let c0_i32_116 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32_111 : BitVec 32 := 7#32
  let v151 : BitVec 32 := Scalar.addi v2 c7_i32_111
  let c8_i32_112 : BitVec 32 := 8#32
  let v152 : BitVec 32 := Scalar.remsi v151 c8_i32_112
  let c1_i32_115 : BitVec 32 := 1#32
  let v153 : BitVec 32 := Scalar.muli v152 c1_i32_115
  let v154 : BitVec 32 := Scalar.addi c0_i32_116 v153
  v154.toNat
def k0_dev17 (d0 : Dev nD) : Nat :=
  let c0_i32_158 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32_153 : BitVec 32 := 2#32
  let v204 : BitVec 32 := Scalar.addi v2 c2_i32_153
  let c8_i32_154 : BitVec 32 := 8#32
  let v205 : BitVec 32 := Scalar.remsi v204 c8_i32_154
  let c1_i32_157 : BitVec 32 := 1#32
  let v206 : BitVec 32 := Scalar.muli v205 c1_i32_157
  let v207 : BitVec 32 := Scalar.addi c0_i32_158 v206
  v207.toNat
def k0_dev18 (d0 : Dev nD) : Nat :=
  let c0_i32_170 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c6_i32_165 : BitVec 32 := 6#32
  let v214 : BitVec 32 := Scalar.addi v2 c6_i32_165
  let c8_i32_166 : BitVec 32 := 8#32
  let v215 : BitVec 32 := Scalar.remsi v214 c8_i32_166
  let c1_i32_169 : BitVec 32 := 1#32
  let v216 : BitVec 32 := Scalar.muli v215 c1_i32_169
  let v217 : BitVec 32 := Scalar.addi c0_i32_170 v216
  v217.toNat
def k0_dev19 (d0 : Dev nD) : Nat :=
  let c0_i32_201 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_196 : BitVec 32 := 3#32
  let v238 : BitVec 32 := Scalar.addi v2 c3_i32_196
  let c8_i32_197 : BitVec 32 := 8#32
  let v239 : BitVec 32 := Scalar.remsi v238 c8_i32_197
  let c1_i32_200 : BitVec 32 := 1#32
  let v240 : BitVec 32 := Scalar.muli v239 c1_i32_200
  let v241 : BitVec 32 := Scalar.addi c0_i32_201 v240
  v241.toNat
def k0_dev20 (d0 : Dev nD) : Nat :=
  let c0_i32_213 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c5_i32_208 : BitVec 32 := 5#32
  let v248 : BitVec 32 := Scalar.addi v2 c5_i32_208
  let c8_i32_209 : BitVec 32 := 8#32
  let v249 : BitVec 32 := Scalar.remsi v248 c8_i32_209
  let c1_i32_212 : BitVec 32 := 1#32
  let v250 : BitVec 32 := Scalar.muli v249 c1_i32_212
  let v251 : BitVec 32 := Scalar.addi c0_i32_213 v250
  v251.toNat
def k0_dev21 (d0 : Dev nD) : Nat :=
  let c0_i32_225 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_220 : BitVec 32 := 4#32
  let v258 : BitVec 32 := Scalar.addi v2 c4_i32_220
  let c8_i32_221 : BitVec 32 := 8#32
  let v259 : BitVec 32 := Scalar.remsi v258 c8_i32_221
  let c1_i32_224 : BitVec 32 := 1#32
  let v260 : BitVec 32 := Scalar.muli v259 c1_i32_224
  let v261 : BitVec 32 := Scalar.addi c0_i32_225 v260
  v261.toNat
def k0_off5 (d0 : Dev nD) (c0_i32_232 : BitVec 32) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v268 : BitVec 32 := Scalar.subi v2 c0_i32_232
  let c1_i32_233 : BitVec 32 := 1#32
  let v269 : BitVec 32 := Scalar.subi v268 c1_i32_233
  let c8_i32_234 : BitVec 32 := 8#32
  let v270 : BitVec 32 := Scalar.addi v269 c8_i32_234
  let c8_i32_235 : BitVec 32 := 8#32
  let v271 : BitVec 32 := Scalar.remsi v270 c8_i32_235
  let c0_i32_240 : BitVec 32 := 0#32
  ![v271.toNat, 0]
def k0_off6 (d0 : Dev nD) (c0_i32_232 : BitVec 32) : Fin 4 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v268 : BitVec 32 := Scalar.subi v2 c0_i32_232
  let c1_i32_233 : BitVec 32 := 1#32
  let v269 : BitVec 32 := Scalar.subi v268 c1_i32_233
  let c8_i32_234 : BitVec 32 := 8#32
  let v270 : BitVec 32 := Scalar.addi v269 c8_i32_234
  let c8_i32_235 : BitVec 32 := 8#32
  let v271 : BitVec 32 := Scalar.remsi v270 c8_i32_235
  let c0_i32_246 : BitVec 32 := 0#32
  let c0_i32_247 : BitVec 32 := 0#32
  let c0_i32_248 : BitVec 32 := 0#32
  ![v271.toNat, 0, 0, 0]
def k0_off7 (d0 : Dev nD) (c0_i32_232 : BitVec 32) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v268 : BitVec 32 := Scalar.subi v2 c0_i32_232
  let c1_i32_233 : BitVec 32 := 1#32
  let v269 : BitVec 32 := Scalar.subi v268 c1_i32_233
  let c8_i32_234 : BitVec 32 := 8#32
  let v270 : BitVec 32 := Scalar.addi v269 c8_i32_234
  let c8_i32_235 : BitVec 32 := 8#32
  let v271 : BitVec 32 := Scalar.remsi v270 c8_i32_235
  let v284 : Index := Scalar.indexCast v271
  let c0_252 : Index := 0#32
  ![v284.toNat, 0]
def k0_off8 (d0 : Dev nD) (c0_i32_232 : BitVec 32) : Fin 4 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v268 : BitVec 32 := Scalar.subi v2 c0_i32_232
  let c1_i32_233 : BitVec 32 := 1#32
  let v269 : BitVec 32 := Scalar.subi v268 c1_i32_233
  let c8_i32_234 : BitVec 32 := 8#32
  let v270 : BitVec 32 := Scalar.addi v269 c8_i32_234
  let c8_i32_235 : BitVec 32 := 8#32
  let v271 : BitVec 32 := Scalar.remsi v270 c8_i32_235
  let v310 : Index := Scalar.indexCast v271
  let c0_258 : Index := 0#32
  let c0_259 : Index := 0#32
  let c0_260 : Index := 0#32
  ![v310.toNat, 0, 0, 0]
abbrev stage0_0 : Fin 1 → Memref sig .tc .vmem S512x256 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S512x1 .i32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S2x256x512 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S512x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
-- ==== ReferenceIdeal.lean ====
abbrev S4096x256 : Shape := ⟨2, ![4096, 256]⟩
abbrev S256x16 : Shape := ⟨2, ![256, 16]⟩
abbrev S4096x1 : Shape := ⟨2, ![4096, 1]⟩
abbrev S16x256x512 : Shape := ⟨3, ![16, 256, 512]⟩
abbrev S_ : Shape := ⟨0, ![]⟩
abbrev S16 : Shape := ⟨1, ![16]⟩
abbrev S16x1x1 : Shape := ⟨3, ![16, 1, 1]⟩
abbrev S4096 : Shape := ⟨1, ![4096]⟩
abbrev S1x4096 : Shape := ⟨2, ![1, 4096]⟩
abbrev S4096x4096 : Shape := ⟨2, ![4096, 4096]⟩
abbrev S4096x16x512 : Shape := ⟨3, ![4096, 16, 512]⟩
abbrev S1x16 : Shape := ⟨2, ![1, 16]⟩
abbrev S4096x16 : Shape := ⟨2, ![4096, 16]⟩
abbrev S4096x16x1 : Shape := ⟨3, ![4096, 16, 1]⟩
abbrev S4096x512 : Shape := ⟨2, ![4096, 512]⟩

abbrev nBuf : Space → Nat
  | .hbm => 67
  | .vmem => 0
  | .smem => 0
  | _ => 0

abbrev bufTy : (tb : Table) → Fin (tcTables nBuf tb) → BufTy
  | .hbm, ⟨0, _⟩ => ⟨S4096x256, .bf16⟩
  | .hbm, ⟨1, _⟩ => ⟨S256x16, .bf16⟩
  | .hbm, ⟨2, _⟩ => ⟨S4096x1, .i32⟩
  | .hbm, ⟨3, _⟩ => ⟨S16x256x512, .bf16⟩
  | .hbm, ⟨4, _⟩ => ⟨S16x256x512, .bf16⟩
  | .hbm, ⟨5, _⟩ => ⟨S_, .bf16⟩
  | .hbm, ⟨6, _⟩ => ⟨S16, .bf16⟩
  | .hbm, ⟨7, _⟩ => ⟨S16x1x1, .bf16⟩
  | .hbm, ⟨8, _⟩ => ⟨S_, .bf16⟩
  | .hbm, ⟨9, _⟩ => ⟨S16x1x1, .bf16⟩
  | .hbm, ⟨10, _⟩ => ⟨S16x1x1, .bf16⟩
  | .hbm, ⟨11, _⟩ => ⟨S_, .bf16⟩
  | .hbm, ⟨12, _⟩ => ⟨S16x1x1, .bf16⟩
  | .hbm, ⟨13, _⟩ => ⟨S16x1x1, .bf16⟩
  | .hbm, ⟨14, _⟩ => ⟨S16x256x512, .bf16⟩
  | .hbm, ⟨15, _⟩ => ⟨S16x256x512, .bf16⟩
  | .hbm, ⟨16, _⟩ => ⟨S16x256x512, .bf16⟩
  | .hbm, ⟨17, _⟩ => ⟨S_, .i32⟩
  | .hbm, ⟨18, _⟩ => ⟨S_, .i32⟩
  | .hbm, ⟨19, _⟩ => ⟨S_, .bf16⟩
  | .hbm, ⟨20, _⟩ => ⟨S16x256x512, .bf16⟩
  | .hbm, ⟨21, _⟩ => ⟨S16x256x512, .bf16⟩
  | .hbm, ⟨22, _⟩ => ⟨S_, .bf16⟩
  | .hbm, ⟨23, _⟩ => ⟨S16x256x512, .bf16⟩
  | .hbm, ⟨24, _⟩ => ⟨S16x256x512, .bf16⟩
  | .hbm, ⟨25, _⟩ => ⟨S16x256x512, .bf16⟩
  | .hbm, ⟨26, _⟩ => ⟨S16x256x512, .bf16⟩
  | .hbm, ⟨27, _⟩ => ⟨S4096, .i32⟩
  | .hbm, ⟨28, _⟩ => ⟨S4096, .i32⟩
  | .hbm, ⟨29, _⟩ => ⟨S1x4096, .i32⟩
  | .hbm, ⟨30, _⟩ => ⟨S4096x4096, .i32⟩
  | .hbm, ⟨31, _⟩ => ⟨S4096x4096, .i32⟩
  | .hbm, ⟨32, _⟩ => ⟨S4096x4096, .i1⟩
  | .hbm, ⟨33, _⟩ => ⟨S1x4096, .i32⟩
  | .hbm, ⟨34, _⟩ => ⟨S4096x1, .i32⟩
  | .hbm, ⟨35, _⟩ => ⟨S4096x4096, .i32⟩
  | .hbm, ⟨36, _⟩ => ⟨S4096x4096, .i32⟩
  | .hbm, ⟨37, _⟩ => ⟨S4096x4096, .i1⟩
  | .hbm, ⟨38, _⟩ => ⟨S4096x4096, .i1⟩
  | .hbm, ⟨39, _⟩ => ⟨S4096x4096, .f32⟩
  | .hbm, ⟨40, _⟩ => ⟨S_, .f32⟩
  | .hbm, ⟨41, _⟩ => ⟨S4096, .f32⟩
  | .hbm, ⟨42, _⟩ => ⟨S4096x1, .f32⟩
  | .hbm, ⟨43, _⟩ => ⟨S4096x256, .f32⟩
  | .hbm, ⟨44, _⟩ => ⟨S16x256x512, .f32⟩
  | .hbm, ⟨45, _⟩ => ⟨S4096x16x512, .f32⟩
  | .hbm, ⟨46, _⟩ => ⟨S16, .i32⟩
  | .hbm, ⟨47, _⟩ => ⟨S1x16, .i32⟩
  | .hbm, ⟨48, _⟩ => ⟨S4096x16, .i32⟩
  | .hbm, ⟨49, _⟩ => ⟨S4096x16, .i32⟩
  | .hbm, ⟨50, _⟩ => ⟨S4096x16, .i1⟩
  | .hbm, ⟨51, _⟩ => ⟨S4096x16x1, .i1⟩
  | .hbm, ⟨52, _⟩ => ⟨S_, .f32⟩
  | .hbm, ⟨53, _⟩ => ⟨S_, .f32⟩
  | .hbm, ⟨54, _⟩ => ⟨S4096x16x512, .i1⟩
  | .hbm, ⟨55, _⟩ => ⟨S4096x16x512, .f32⟩
  | .hbm, ⟨56, _⟩ => ⟨S4096x16x512, .f32⟩
  | .hbm, ⟨57, _⟩ => ⟨S_, .f32⟩
  | .hbm, ⟨58, _⟩ => ⟨S4096x512, .f32⟩
  | .hbm, ⟨59, _⟩ => ⟨S_, .f32⟩
  | .hbm, ⟨60, _⟩ => ⟨S4096x1, .f32⟩
  | .hbm, ⟨61, _⟩ => ⟨S4096x1, .i1⟩
  | .hbm, ⟨62, _⟩ => ⟨S_, .f32⟩
  | .hbm, ⟨63, _⟩ => ⟨S_, .f32⟩
  | .hbm, ⟨64, _⟩ => ⟨S4096x512, .i1⟩
  | .hbm, ⟨65, _⟩ => ⟨S4096x512, .f32⟩
  | .hbm, ⟨66, _⟩ => ⟨S4096x512, .f32⟩
  | _, _ => ⟨S4096x256, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_c : Ref sig .tc := ⟨.hbm, 17, rfl⟩
abbrev main_c_2 : Ref sig .tc := ⟨.hbm, 18, rfl⟩
abbrev main_call1_v0 : Ref sig .tc := ⟨.hbm, 19, rfl⟩
abbrev main_call1_v1 : Ref sig .tc := ⟨.hbm, 20, rfl⟩
abbrev main_call1_v2 : Ref sig .tc := ⟨.hbm, 21, rfl⟩
abbrev main_call1_v3 : Ref sig .tc := ⟨.hbm, 22, rfl⟩
abbrev main_call1_v4 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_cst_3 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_cst_4 : Ref sig .tc := ⟨.hbm, 52, rfl⟩
abbrev main_call2_v0 : Ref sig .tc := ⟨.hbm, 53, rfl⟩
abbrev main_call2_v1 : Ref sig .tc := ⟨.hbm, 54, rfl⟩
abbrev main_call2_v2 : Ref sig .tc := ⟨.hbm, 55, rfl⟩
abbrev main_v37 : Ref sig .tc := ⟨.hbm, 56, rfl⟩
abbrev main_cst_5 : Ref sig .tc := ⟨.hbm, 57, rfl⟩
abbrev main_v38 : Ref sig .tc := ⟨.hbm, 58, rfl⟩
abbrev main_cst_6 : Ref sig .tc := ⟨.hbm, 59, rfl⟩
abbrev main_v39 : Ref sig .tc := ⟨.hbm, 60, rfl⟩
abbrev main_v40 : Ref sig .tc := ⟨.hbm, 61, rfl⟩
abbrev main_cst_7 : Ref sig .tc := ⟨.hbm, 62, rfl⟩
abbrev main_call3_v0 : Ref sig .tc := ⟨.hbm, 63, rfl⟩
abbrev main_call3_v1 : Ref sig .tc := ⟨.hbm, 64, rfl⟩
abbrev main_call3_v2 : Ref sig .tc := ⟨.hbm, 65, rfl⟩
abbrev main_v41 : Ref sig .tc := ⟨.hbm, 66, rfl⟩

abbrev nD : Nat := 1
abbrev τ : Topo := Topo.v7x

variable {F : FTy → Type} [FloatOps F]
-- ==== Proof.KernelIdealSched.lean ====
/-
The exchange between the eight devices, as a protocol on semaphores.

Every device `c` has one barrier semaphore and four rows of seven DMA semaphores. With `nx s c` the device `s + 1`
places after `c` and `pv s c` the device `s + 1` places before it:

* barrier of `c`: one unit from each other device; duty `s` is paid by `pv s c`, which hands over row `c` of its
  counts buffer and slab `c` of its weights buffer (contents arbitrary): the places `c` will write on it;
* `mrecv s` of `c`: paid by the copy of `pv s c`'s row of counts, which delivers row `pv s c` filled;
* `wrecv s` of `c`: the same for the slab of quantised weights;
* `msend s`, `wsend s` of `c`: paid by the same copies when their source has been read; each gives back the share of
  the source the copy held.

Every cell has one round. Levels: barrier and send cells 1, receive cells 2, staging 0.

The filled buffers are the same on all devices, so one function each, `mAll` and `wAll`, states the contents.
-/
module

public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import Idealize.ShloMosaic.Lib.Pipeline.Launch
public import Idealize.ShloMosaic.Lib.Pipeline.Kit
public import Idealize.ShloMosaic.Lib.Transfers
public import Idealize.ShloMosaic.Lib.ViewIndex
public import Idealize.ShloMosaic.Lib.Tactic

@[expose] public section

noncomputable section

namespace Cert.KernelIdeal.Exchange

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

abbrev UB : Type := URounds (GSem nD τ sig) (Fin 7)
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

variable (m : (ℓ : Loc nD τ sig) → Buf (Elt F) ℓ)

/-! ## The devices -/

set_option backward.proofsInPublic true in
/-- The device `s + 1` places after `c`. -/
def nx (s : Fin 7) (c : Dev nD) : Dev nD := ⟨(c.val + (s.val + 1)) % 8, Nat.mod_lt _ (by decide)⟩
set_option backward.proofsInPublic true in
/-- The device `s + 1` places before `c`. -/
def pv (s : Fin 7) (c : Dev nD) : Dev nD := ⟨(c.val + 7 - s.val) % 8, Nat.mod_lt _ (by decide)⟩

theorem pv_nx (s : Fin 7) (c : Dev nD) : pv s (nx s c) = c := by revert s c; decide
theorem nx_pv (s : Fin 7) (c : Dev nD) : nx s (pv s c) = c := by revert s c; decide
theorem nx_ne (s : Fin 7) (c : Dev nD) : nx s c ≠ c := by revert s c; decide

/-- Going `s + 1` places forward is a bijection of the devices. -/
def around (s : Fin 7) : Dev nD ≃ Dev nD := ⟨nx s, pv s, pv_nx s, nx_pv s⟩

/-! ## The cells -/

/-- The runtime's barrier semaphore of this collective. -/
abbrev barS : Sem sig := (SemArray.scalar (sig.barrier 0 rfl) : Sems sig S_).sem

set_option backward.proofsInPublic true in
/-- The DMA semaphores of the exchange: kind 0 sends a slab, 1 receives one, 2 sends a row of counts, 3 receives one. -/
def xS (k : Fin 4) (s : Fin 7) : DmaSem sig := ⟨4 + (7 * k.val + s.val), by show _ < 32; omega⟩

theorem xS_inj : ∀ k k' : Fin 4, ∀ s s' : Fin 7, xS k s = xS k' s' → k = k' ∧ s = s' := by decide

abbrev barCell (c : Dev nD) : GSem nD τ sig := ((c : Thread nD τ), .reg barS)
abbrev xCell (c : Dev nD) (k : Fin 4) (s : Fin 7) : GSem nD τ sig := ((c : Thread nD τ), .dma (xS k s))

/-- The kernel's own semaphores. -/
abbrev osem : Fin 4 × Fin 7 → SemLoc sig := fun ks => .dma (xS ks.1 ks.2)

/-! ## The buffers' rows -/

abbrev xM : Memref sig .tc .vmem S512x256 .bf16 := Memref.whole cc0_stg0_0
abbrev iM : Memref sig .tc .vmem S512x1 .i32 := Memref.whole cc0_stg1_0
abbrev eM : Memref sig .tc .vmem S2x256x512 .bf16 := Memref.whole cc0_stg2_0
abbrev oM : Memref sig .tc .vmem S512x512 .f32 := Memref.whole cc0_stg3_0
abbrev wM : Memref sig .tc .vmem S8x2x256x512 .i8 := Memref.whole cc0_scratch0
abbrev mM : Memref sig .tc .vmem S8x128 .f32 := Memref.whole cc0_scratch1

theorem mInb (d : Dev nD) : ∀ a, (![d.val, 0] : Fin 2 → Nat) a + S1x128.size a ≤ S8x128.size a := by revert d; decide
theorem wInb (d : Dev nD) : ∀ a, (![d.val, 0, 0, 0] : Fin 4 → Nat) a + S1x2x256x512.size a ≤ S8x2x256x512.size a := by revert d; decide

/-- Row `d` of the counts buffer, slab `d` of the weights buffer. -/
abbrev mRect (d : Dev nD) : Rect S8x128 := Rect.unit (s := S8x128) ![d.val, 0] S1x128.size (mInb d)
abbrev wRect (d : Dev nD) : Rect S8x2x256x512 := Rect.unit (s := S8x2x256x512) ![d.val, 0, 0, 0] S1x2x256x512.size (wInb d)
abbrev mRow (d : Dev nD) : Memref sig .tc .vmem S1x128 .f32 := mM.slice (mRect d) (fun _ => rfl)
abbrev wRow (d : Dev nD) : Memref sig .tc .vmem S1x2x256x512 .i8 := wM.slice (wRect d) (fun _ => rfl)

/-- The element sets of row `d` and slab `d`. -/
def mSet (d : Dev nD) : Finset S8x128.Idx := (mRect d).set
def wSet (d : Dev nD) : Finset S8x2x256x512.Idx := (wRect d).set

theorem mRow_set (d : Dev nD) : (mRow d).view.set = mSet d := View.set_slice_whole _ _
theorem wRow_set (d : Dev nD) : (wRow d).view.set = wSet d := View.set_slice_whole _ _

theorem mem_mSet (d : Dev nD) (i : S8x128.Idx) : i ∈ mSet d ↔ (i 0).val = d.val := by
  unfold mSet
  rw [Rect.mem_set_unit]
  constructor
  · intro h; have := h 0; simp at this; omega
  · intro h a; fin_cases a
    · simp; omega
    · exact ⟨Nat.zero_le _, by simpa using (i 1).isLt⟩

/-- The credit of a row's copy and of a slab's. -/
abbrev NM : ℕ := (mRow 0).view.dmaCredit
abbrev NW : ℕ := (wRow 0).view.dmaCredit

theorem NM_pos : 0 < NM := View.dmaCredit_pos _ (by decide)
theorem NW_pos : 0 < NW := View.dmaCredit_pos _ (by decide)

/-! ## Contents -/

/-- The three staged arguments of device `c`: its tokens, its routing column, its two experts' matrices. -/
def xstg (c : Dev nD) : (cc0_stg0_0 : Ref sig .tc).ty.Contents (Elt F) :=
  (win0_0.blk (0 : Fin 1)).view.read (Elt F) (m ((c : Thread nD τ).loc main_arg0))
def istg (c : Dev nD) : (cc0_stg1_0 : Ref sig .tc).ty.Contents (Elt F) :=
  (win0_1.blk (0 : Fin 1)).view.read (Elt F) (m ((c : Thread nD τ).loc main_arg2))
def estg (c : Dev nD) : (cc0_stg2_0 : Ref sig .tc).ty.Contents (Elt F) :=
  (win0_2.blk (0 : Fin 1)).view.read (Elt F) (m ((c : Thread nD τ).loc main_arg3))

/-- The row of counts and scales, and the slab of quantised weights, device `d` sends. -/
def mVal (d : Dev nD) : Vec F S1x128 .f32 := k0_pay6 (k0_pay5 (estg m d) (istg m d))
def wVal (d : Dev nD) : Vec F S1x2x256x512 .i8 := k0_pay7 (k0_pay1 (estg m d)) (k0_pay2 (estg m d))

/-- The counts buffer and the weights buffer once every row has arrived: row `d` is what device `d` sends. -/
def mAll : (cc0_scratch1 : Ref sig .tc).ty.Contents (Elt F) :=
  fun i => mVal m ⟨(i (0 : Fin 2)).val, (i (0 : Fin 2)).isLt⟩ (fun | 0 => (0 : Fin 1) | 1 => i (1 : Fin 2))
def wAll : (cc0_scratch0 : Ref sig .tc).ty.Contents (Elt F) :=
  fun i => wVal m ⟨(i (0 : Fin 4)).val, (i (0 : Fin 4)).isLt⟩
    (fun | 0 => (0 : Fin 1) | 1 => i (1 : Fin 4) | 2 => i (2 : Fin 4) | 3 => i (3 : Fin 4))

/-- Row `d` of the filled counts buffer is what device `d` sends. -/
theorem read_mAll (d : Dev nD) : (mRow d).view.read (Elt F) (mAll m) = mVal m d := by
  funext j
  show mVal m _ _ = _
  congr 1
  · apply Fin.ext; show d.val + 1 * (j 0).val = d.val
    have : (j 0).val = 0 := Nat.lt_one_iff.mp (j 0).isLt
    omega
  · funext a; fin_cases a
    · exact Subsingleton.elim (α := Fin 1) _ _
    · apply Fin.ext; show 0 + 1 * (j 1).val = (j 1).val; omega

/-- Slab `d` of the filled weights buffer is what device `d` sends. -/
theorem read_wAll (d : Dev nD) : (wRow d).view.read (Elt F) (wAll m) = wVal m d := by
  funext j
  show wVal m _ _ = _
  congr 1
  · apply Fin.ext; show d.val + 1 * (j 0).val = d.val
    have : (j 0).val = 0 := Nat.lt_one_iff.mp (j 0).isLt
    omega
  · funext a; fin_cases a
    · exact Subsingleton.elim (α := Fin 1) _ _
    · apply Fin.ext; show 0 + 1 * (j 1).val = (j 1).val; omega
    · apply Fin.ext; show 0 + 1 * (j 2).val = (j 2).val; omega
    · apply Fin.ext; show 0 + 1 * (j 3).val = (j 3).val; omega

/-- Row `d` of device `e`'s counts buffer, at share `q` and contents `f`; slab `d` of its weights buffer. -/
def mPts (e d : Dev nD) (q : PosShare TreeShare) (f : Buf (Elt F) ((e : Thread nD τ).loc cc0_scratch1)) : sProp 𝕄 :=
  ((e : Thread nD τ).loc cc0_scratch1) ↦[mSet d]{q} f
def wPts (e d : Dev nD) (q : PosShare TreeShare) (f : Buf (Elt F) ((e : Thread nD τ).loc cc0_scratch0)) : sProp 𝕄 :=
  ((e : Thread nD τ).loc cc0_scratch0) ↦[wSet d]{q} f

instance mPts_storable (e d : Dev nD) (q) (f) : BI.Storable (upEmb : UEmb _ 𝕄) (mPts (F := F) e d q f) := by unfold mPts; infer_instance
instance wPts_storable (e d : Dev nD) (q) (f) : BI.Storable (upEmb : UEmb _ 𝕄) (wPts (F := F) e d q f) := by unfold wPts; infer_instance

/-! ## The schedule -/

/-- The share of its own row a device lends to its copy number `s`. -/
abbrev lend (s : Fin 7) : PosShare TreeShare := Transfers.shareTok fullShare 7 s
/-- The share it keeps. -/
abbrev kept : PosShare TreeShare := Transfers.shareDrop fullShare 7

/-- Places on device `p` that device `e` will write: row `e` and slab `e`. -/
def slots (p e : Dev nD) : sProp 𝕄 := iprop((∃ f, mPts p e fullShare f) ∗ (∃ f, wPts p e fullShare f))

instance slots_storable (p e : Dev nD) : BI.Storable (upEmb : UEmb _ 𝕄) (slots (F := F) p e) := by unfold slots; infer_instance

/-- What the transfer semaphores of device `c` hand it. -/
def xPay (c : Dev nD) (k : Fin 4) (s : Fin 7) : sProp 𝕄 := match k with
  | 0 => wPts c c (lend s) (wAll m)
  | 1 => wPts c (pv s c) fullShare (wAll m)
  | 2 => mPts c c (lend s) (mAll m)
  | 3 => mPts c (pv s c) fullShare (mAll m)

instance xPay_storable (c : Dev nD) (k : Fin 4) (s : Fin 7) : BI.Storable (upEmb : UEmb _ 𝕄) (xPay m c k s) := by
  unfold xPay; split <;> infer_instance

/-- The kind of a DMA semaphore of the exchange, and its place among its kind. -/
def kOf (q : DmaSem sig) : Fin 4 := ⟨(q.val - 4) / 7, by have : q.val < 32 := q.isLt; omega⟩
def sOf (q : DmaSem sig) : Fin 7 := ⟨(q.val - 4) % 7, Nat.mod_lt _ (by decide)⟩

theorem kOf_xS : ∀ (k : Fin 4) (s : Fin 7), kOf (xS k s) = k := by decide
theorem sOf_xS : ∀ (k : Fin 4) (s : Fin 7), sOf (xS k s) = s := by decide
theorem four_le_xS (k : Fin 4) (s : Fin 7) : 4 ≤ (xS k s).val := Nat.le_add_right 4 _

/-- The credit of a copy of kind `k`. -/
abbrev NX (k : Fin 4) : ℕ := if k.val < 2 then NW else NM
theorem NX_pos (k : Fin 4) : 0 < NX k := by unfold NX; split; exacts [NW_pos, NM_pos]

/-- One round. A barrier has seven duties of one unit, duty `s` paid by the device `s + 1` places after it; a transfer
    semaphore one duty, of the copy's credit. -/
def sched : Rounds.Schedule (GSem nD τ sig) (Fin 7) 𝕄 where
  duties g r := if r = 0 ∧ g.1.2 = .tc then
      (match g.2 with
        | .reg b => if b = barS then Finset.univ else ∅
        | .dma q => if 4 ≤ q.val then {0} else ∅)
    else ∅
  unitless _ := False
  amount g _ _ := match g.2 with
    | .reg _ => 1
    | .dma q => NX (kOf q)
  payload g _ d := match g.2 with
    | .reg _ => slots (nx d g.1.1) g.1.1
    | .dma q => xPay m g.1.1 (kOf q) (sOf q)
  amount_pos g _ _ _ := by
    rcases g with ⟨t, b | q⟩
    · exact Nat.one_pos
    · exact NX_pos _

instance sched_payload_storable (g : GSem nD τ sig) (r : ℕ) (d : Fin 7) :
    BI.Storable (upEmb : UEmb _ 𝕄) ((sched (F := F) m).payload g r d) := by
  rcases g with ⟨t, b | q⟩
  · exact slots_storable _ _
  · exact xPay_storable m _ _ _

theorem duties_bar (c : Dev nD) : (sched (F := F) m).duties (barCell c) 0 = Finset.univ := by
  dsimp only [sched]; exact (if_pos ⟨rfl, rfl⟩).trans (if_pos rfl)
theorem duties_x (c : Dev nD) (k : Fin 4) (s : Fin 7) : (sched (F := F) m).duties (xCell c k s) 0 = {0} := by
  dsimp only [sched]; exact (if_pos ⟨rfl, rfl⟩).trans (if_pos (four_le_xS k s))
theorem duties_later (g : GSem nD τ sig) : ∀ r, 1 ≤ r → (sched (F := F) m).duties g r = ∅ :=
  fun r hr => if_neg fun h => by omega

theorem amount_bar (c : Dev nD) (d : Fin 7) : (sched (F := F) m).amount (barCell c) 0 d = 1 := rfl
theorem amount_x (c : Dev nD) (k : Fin 4) (s : Fin 7) (d : Fin 7) : (sched (F := F) m).amount (xCell c k s) 0 d = NX k := by
  show NX (kOf (xS k s)) = NX k
  rw [kOf_xS]
theorem payload_bar (c : Dev nD) (d : Fin 7) : (sched (F := F) m).payload (barCell c) 0 d = slots (nx d c) c := rfl
theorem payload_x (c : Dev nD) (k : Fin 4) (s : Fin 7) (d : Fin 7) : (sched (F := F) m).payload (xCell c k s) 0 d = xPay m c k s := by
  show xPay m c (kOf (xS k s)) (sOf (xS k s)) = _
  rw [kOf_xS, sOf_xS]

theorem expect_bar (c : Dev nD) : (sched (F := F) m).expect (barCell c) 0 = 7 := by
  unfold Schedule.expect Schedule.amountOf
  rw [duties_bar, Finset.sum_congr rfl fun d _ => amount_bar m c d, Finset.sum_const, Finset.card_univ, Fintype.card_fin, smul_eq_mul]
theorem expect_x (c : Dev nD) (k : Fin 4) (s : Fin 7) : (sched (F := F) m).expect (xCell c k s) 0 = NX k := by
  unfold Schedule.expect Schedule.amountOf; rw [duties_x, Finset.sum_singleton, amount_x]

theorem rest_bar (c : Dev nD) : bigSep ((sched (F := F) m).duties (barCell c) 0 \ ∅) (fun d => (sched (F := F) m).payload (barCell c) 0 d)
    = bigSep Finset.univ (fun s : Fin 7 => slots (nx s c) c) := by
  rw [Finset.sdiff_empty, duties_bar]; rfl
theorem rest_x (c : Dev nD) (k : Fin 4) (s : Fin 7) :
    bigSep ((sched (F := F) m).duties (xCell c k s) 0 \ ∅) (fun d => (sched (F := F) m).payload (xCell c k s) 0 d) = xPay m c k s := by
  rw [Finset.sdiff_empty, duties_x, bigSep_singleton, payload_x]

/-! ## What each device owes, in the order it pays; the levels -/

/-- A payment to the device `s + 1` places after: kind 0 a barrier unit, 1 a row of counts, 2 a slab of weights. -/
abbrev Due : Type := Fin 3 × Fin 7

def dueSem : Due → SemLoc sig
  | (0, _) => .reg barS
  | (1, s) => .dma (xS 3 s)
  | (2, s) => .dma (xS 1 s)
def dueAmt : Due → ℕ
  | (0, _) => 1
  | (1, _) => NM
  | (2, _) => NW

/-- What device `c` still owes when the payments `l` are left, the next one first. -/
def owing (c : Dev nD) : List Due → CellTallies nD τ sig Unit
  | [] => 0
  | p :: l => owing c l + tallyAt ((nx p.2 c : Thread nD τ), dueSem p) () (dueAmt p)

abbrev sigDues : List Due := [(0, 0), (0, 1), (0, 2), (0, 3), (0, 4), (0, 5), (0, 6)]
abbrev mDues : List Due := [(1, 0), (1, 1), (1, 2), (1, 3), (1, 4), (1, 5), (1, 6)]
abbrev wDues : List Due := [(2, 0), (2, 6), (2, 1), (2, 5), (2, 2), (2, 4), (2, 3)]
/-- All payments: the barrier signals, the rows, the slabs in the kernel's order. -/
abbrev allDues : List Due := sigDues ++ (mDues ++ wDues)

def L (g : GSem nD τ sig) : Finset Unit := if g.1.2 = .tc then {()} else ∅
/-- Staging semaphores 0, barrier and send semaphores 1, receive semaphores 2. -/
def lvS : SemLoc sig → ℕ
  | .reg _ => 1
  | .dma q => if q.val < 4 then 0 else if (kOf q).val % 2 = 1 then 2 else 1
def lv (g : GSem nD τ sig) (_ : Unit) : ℕ := lvS g.2

theorem L_of_ne (g : GSem nD τ sig) (h : g.1.2 ≠ .tc) : L g = ∅ := if_neg h
theorem L_tc (c : Dev nD) (sm : SemLoc sig) : L ((c : Thread nD τ), sm) = {()} := if_pos rfl

theorem owing_pos {c : Dev nD} {g : GSem nD τ sig} {u : Unit} : ∀ {l : List Due}, 0 < owing c l g u →
    ∃ p ∈ l, g = ((nx p.2 c : Thread nD τ), dueSem p)
  | [], h => absurd h (Nat.lt_irrefl 0)
  | p :: l, h => by
    unfold owing at h
    rw [Pi.add_apply, Finsupp.add_apply, tallyAt_apply] at h
    by_cases hp : g = ((nx p.2 c : Thread nD τ), dueSem p) ∧ u = ()
    · exact ⟨p, List.mem_cons_self, hp.1⟩
    · rw [if_neg hp, Nat.add_zero] at h
      obtain ⟨q, hq, e⟩ := owing_pos h
      exact ⟨q, List.mem_cons_of_mem _ hq, e⟩

/-- A device may wait on a semaphore while all it owes lies on higher levels. -/
theorem mayWait_of (c : Dev nD) (sm : SemLoc sig) (l : List Due) (h : ∀ p ∈ l, lvS sm < lvS (dueSem p)) :
    (levAts L lv : sProp 𝕄) ⊢ MayWait (c : Thread nD τ) sm () (owing c l) :=
  MayOwe.of_cut (L := L) (lev := lv) (lvS sm) (fun p hp => by rw [Finset.mem_singleton.mp hp, L_tc]; exact Finset.mem_singleton_self _)
    (fun g u hg => by obtain ⟨p, _, rfl⟩ := owing_pos hg; exact Finset.mem_singleton_self _)
    (fun p hp => by rw [Finset.mem_singleton.mp hp]; exact le_refl _)
    (fun g u hg => by obtain ⟨p, hp, rfl⟩ := owing_pos hg; exact h p hp)

end Cert.KernelIdeal.Exchange
end
-- ==== Proof.KernelIdealSteps.lean ====
/-
The kernel's effects one by one, each at a symbolic place `s` of its device `c`: a signal, the barrier wait, the copy of a
row, the copy of a slab, a wait, the loads and stores of rows and slabs. Each lemma takes the persistent `records` and the
resources of that one step, and leaves those after it.
-/
module

public import proofs.«01_k».proof.Proof.KernelIdealSched

@[expose] public section

noncomputable section

namespace Cert.KernelIdeal.Exchange

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

abbrev 𝒱₀ : Variants := Variants.none

/-- A device's cells of the exchange: the barrier and the transfer semaphores. -/
abbrev CI : Type := Option (Fin 4 × Fin 7)
abbrev csem : CI → SemLoc sig
  | none => .reg barS
  | some ks => .dma (xS ks.1 ks.2)
abbrev kcell (ck : Dev nD × CI) : GSem nD τ sig := ((ck.1 : Thread nD τ), csem ck.2)

/-- All cells' invariants under the names `K`, and that each has reached its only round. -/
def records (K : Dev nD × CI → ℕ) : sProp 𝕄 :=
  iprop((bigSep Finset.univ fun ck : Dev nD × CI => cellInv ER (sched m) (K ck) (kcell ck))
    ∗ bigSep Finset.univ fun ck : Dev nD × CI => reached ER (kcell ck) 0)

instance records_persistent (K : Dev nD × CI → ℕ) : BI.Persistent (records m K) := by unfold records; infer_instance

variable (K : Dev nD × CI → ℕ)

theorem inv_at (ck : Dev nD × CI) : records m K ⊢ cellInv ER (sched m) (K ck) (kcell ck) := by
  unfold records
  exact sep_elim_left.trans (bigSep_elim (Φ := fun ck : Dev nD × CI => (cellInv ER (sched m) (K ck) (kcell ck) : sProp 𝕄)) (Finset.mem_univ ck))
theorem reached_at (ck : Dev nD × CI) : records m K ⊢ reached ER (kcell ck) 0 := by
  unfold records
  exact sep_elim_right.trans (bigSep_elim (Φ := fun ck : Dev nD × CI => (reached ER (kcell ck) 0 : sProp 𝕄)) (Finset.mem_univ ck))

/-- Device `c` owes the payments `l`, whatever it has waited on. -/
def Owe (c : Dev nD) (l : List Due) : sProp 𝕄 := iprop(∃ W, owes (c : Thread nD τ) (owing c l) W)

theorem nx_rev (s : Fin 7) (c : Dev nD) : nx s.rev (nx s c) = c := by revert s c; decide

/-- The tokens device `c` spends on its signal `s`, on its copy of a row `s`, on its copy of a slab `s`,
    with its place at the cell the copy will credit on `c`. -/
def sigTok (c : Dev nD) (s : Fin 7) : sProp 𝕄 := dutyTok ER (barCell (nx s c)) 0 s.rev
def mTok (c : Dev nD) (s : Fin 7) : sProp 𝕄 :=
  iprop(dutyTok ER (xCell c 2 s) 0 0 ∗ dutyTok ER (xCell (nx s c) 3 s) 0 0 ∗ atPos ER (xCell c 2 s) 0 ∅ 0)
def wTok (c : Dev nD) (s : Fin 7) : sProp 𝕄 :=
  iprop(dutyTok ER (xCell c 0 s) 0 0 ∗ dutyTok ER (xCell (nx s c) 1 s) 0 0 ∗ atPos ER (xCell c 0 s) 0 ∅ 0)

/-- What device `c` waits with on its transfer semaphore: its place at the cell and the credit to come. -/
def awaits (c : Dev nD) (k : Fin 4) (s : Fin 7) : sProp 𝕄 :=
  iprop(atPos ER (xCell c k s) 0 ∅ 0 ∗ cred (tallyAt (xCell c k s) () (NX k)))

abbrev WP (c : Dev nD) {α : Type} (p : Prog (TpuEff nD τ sig (Elt F) Λ₀ .tc) α) (Q : α → sProp 𝕄) : sProp 𝕄 :=
  wp frame (wpE (defs₀ (F := F)) 𝒱₀ (c : Thread nD τ) none) Set.univ p Q

/-- Signal `s`: device `c` hands its places for `nx s c` over to it. -/
theorem wp_sig {α : Type} {Q : α → sProp 𝕄} {k : PUnit → Prog (TpuEff nD τ sig (Elt F) Λ₀ .tc) α}
    (c n : Dev nD) (s : Fin 7) (l : List Due) (hn : n = nx s c) {w : ℕ} (hw : w = 1) :
    records m K ⊢ iprop(Owe c ((0, s) :: l) -∗ sigTok c s -∗ slots c (nx s c) -∗ (Owe c l -∗ WP c (k ⟨⟩) Q) -∗ WP c (.op (.semSignal (n : Thread nD τ) barS w) k) Q) := by
  subst hn; subst hw
  unfold Owe sigTok
  iintro #HR ⟨%W, HO⟩ Ht Hs Hk
  iapply (Rounds.wp_signal 𝒱₀ ER (sched m) (c : Thread nD τ) none (dst := (nx s c : Thread nD τ)) (κ := K (nx s c, none))
      (d := s.rev) (by rw [duties_bar]; exact Finset.mem_univ _) (amount_bar m (nx s c) s.rev) () (owing c l) rfl)
    $$ [HO Ht Hs]
  · isplitr; · iapply (inv_at m K (nx s c, none)); iexact HR
    isplitl [HO]; · iexact HO
    isplitl [Ht]; · iexact Ht
    isplitl [Hs]; · rw [payload_bar, nx_rev]; iexact Hs
    iapply (reached_at m K (nx s c, none)); iexact HR
  iintro HO
  iapply Hk
  iexists W; iexact HO

/-- The wait for the seven signals: every other device's places for `c` are `c`'s. The barrier is spent. -/
theorem wp_bar {α : Type} {Q : α → sProp 𝕄} {k : PUnit → Prog (TpuEff nD τ sig (Elt F) Λ₀ .tc) α}
    (c : Dev nD) (l : List Due) (hl : ∀ p ∈ l, lvS (.reg barS) < lvS (dueSem p)) {w : ℕ} (hw : w = 7) :
    records m K ⊢ iprop(levAts L lv -∗ Owe c l -∗ atPos ER (barCell c) 0 ∅ 0 -∗ cred (tallyAt (barCell c) () 7)
      -∗ ((Owe c l ∗ semVal (barCell c) 0 ∗ bigSep Finset.univ (fun s : Fin 7 => slots (nx s c) c)) -∗ WP c (k ⟨⟩) Q)
          -∗ WP c (.op (.semWait barS w) k) Q) := by
  subst hw
  unfold Owe
  iintro #HR #Hlev ⟨%W, HO⟩ Hat Hc Hk
  iapply (Rounds.wp_wait_rest_token 𝒱₀ ER (sched m) (c : Thread nD τ) none (κ := K (c, none))
      (wpE_semWait_eq 𝒱₀ (c : Thread nD τ) none Set.univ) (Set.mem_univ _) () (O := owing c l) (W := W) (R := 0) (m := 0) (T := ∅)
      (by rw [expect_bar])) $$ [Hc HO Hat]
  · isplitr; · iapply (inv_at m K (c, none)); iexact HR
    isplitl [Hc]; · iexact Hc
    isplitl [HO]; · iexact HO
    isplitr; · iapply (mayWait_of c _ l hl); iexact Hlev
    iexact Hat
  iintro ⟨HO, Hat, -, Hp⟩
  ihave Hp := (Entails.of_eq (rest_bar m c)) $$ Hp
  ihave #HI := (inv_at m K (c, none)) $$ HR
  imod (Rounds.cell_close ER (sched m) (Set.mem_univ (K (c, none))) (fun h => h) (R := 0 + 1) (duties_later m (barCell c))) $$ [Hat] with Hz
  · isplitr; · iexact HI
    iexact Hat
  iapply Hk
  isplitl [HO]; · iexists _; iexact HO
  isplitl [Hz]; · iexact Hz
  iexact Hp

/-- A wait on a transfer semaphore: what the copy hands over is `c`'s. The semaphore is spent. -/
theorem wp_wait {α : Type} {Q : α → sProp 𝕄} {k : PUnit → Prog (TpuEff nD τ sig (Elt F) Λ₀ .tc) α}
    (c : Dev nD) (kd : Fin 4) (s : Fin 7) (l : List Due) (hl : ∀ p ∈ l, lvS (.dma (xS kd s)) < lvS (dueSem p))
    {q : DmaSem sig} (hq : q = xS kd s) {sp sp' : Space} {sh : Shape} {e : EltTy} {src : Memref sig .tc sp sh e} {dst : Memref sig .tc sp' sh e}
    {h1 : src.view.WordExact} {h2 : dst.view.WordExact} (hN : dst.view.dmaCredit = NX kd) :
    records m K ⊢ iprop(levAts L lv -∗ Owe c l -∗ awaits c kd s -∗ ((Owe c l ∗ semVal (xCell c kd s) 0 ∗ xPay m c kd s) -∗ WP c (k ⟨⟩) Q)
          -∗ WP c (.op (.waitDma2 q src dst h1 h2) k) Q) := by
  subst hq
  unfold Owe awaits
  iintro #HR #Hlev ⟨%W, HO⟩ ⟨Hat, Hc⟩ Hk
  iapply (Rounds.wp_wait_rest_token 𝒱₀ ER (sched m) (c : Thread nD τ) none (κ := K (c, some (kd, s)))
      (wpE_waitDma2_eq 𝒱₀ (c : Thread nD τ) none Set.univ) (Set.mem_univ _) () (O := owing c l) (W := W) (R := 0) (m := 0) (T := ∅)
      (by rw [Nat.zero_add, expect_x, hN])) $$ [Hc HO Hat]
  · isplitr; · iapply (inv_at m K (c, some (kd, s))); iexact HR
    isplitl [Hc]; · rw [hN]; iexact Hc
    isplitl [HO]; · iexact HO
    isplitr; · iapply (mayWait_of c _ l hl); iexact Hlev
    iexact Hat
  iintro ⟨HO, Hat, -, Hp⟩
  ihave Hp := (Entails.of_eq (rest_x m c kd s)) $$ Hp
  ihave #HI := (inv_at m K (c, some (kd, s))) $$ HR
  imod (Rounds.cell_close ER (sched m) (Set.mem_univ (K (c, some (kd, s)))) (fun h => h) (R := 0 + 1) (duties_later m (xCell c kd s))) $$ [Hat] with Hz
  · isplitr; · iexact HI
    iexact Hat
  iapply Hk
  isplitl [HO]; · iexists _; iexact HO
  isplitl [Hz]; · iexact Hz
  iexact Hp

/-- Row `d` of a counts buffer, rewritten with row `d` of the filled one, is filled; the same for slabs. -/
theorem mRow_landed (e d : Dev nD) (f : Buf (Elt F) ((e : Thread nD τ).loc cc0_scratch1)) :
    mPts e d fullShare ((mRow d).view.write (Elt F) f ((mRow d).view.read (Elt F) (mAll m)) Finset.univ) ⊢ mPts e d fullShare (mAll m) := by
  unfold mPts
  refine Entails.of_eq (pointsTo_congr fun i hi => ?_)
  rw [View.write_read_eq_piecewise]
  refine Finset.piecewise_eq_of_mem _ _ _ ?_
  rw [View.setOn_univ, mRow_set]; exact hi
theorem wRow_landed (e d : Dev nD) (f : Buf (Elt F) ((e : Thread nD τ).loc cc0_scratch0)) :
    wPts e d fullShare ((wRow d).view.write (Elt F) f ((wRow d).view.read (Elt F) (wAll m)) Finset.univ) ⊢ wPts e d fullShare (wAll m) := by
  unfold wPts
  refine Entails.of_eq (pointsTo_congr fun i hi => ?_)
  rw [View.write_read_eq_piecewise]
  refine Finset.piecewise_eq_of_mem _ _ _ ?_
  rw [View.setOn_univ, wRow_set]; exact hi

/-- Copy `s` of device `c`'s row of counts, to row `c` of device `nx s c`. -/
theorem wp_sendM {α : Type} {Q : α → sProp 𝕄} {k : PUnit → Prog (TpuEff nD τ sig (Elt F) Λ₀ .tc) α}
    (c n : Dev nD) (s : Fin 7) (l : List Due) (hn : n = nx s c)
    {off off' : Fin 2 → Nat} {inb inb'} (ho : off = ![c.val, 0]) (ho' : off' = ![c.val, 0])
    {sS rS : DmaSem sig} (hs : sS = xS 2 s) (hr : rS = xS 3 s)
    {hsc : (mM.slice (Rect.unit (s := S8x128) off' S1x128.size inb') (fun _ => rfl) : Memref sig (Dev.tc n : Thread nD τ).2.kind .vmem S1x128 .f32).view.ref.isScScratch = false}
    {hsrc : (mM.slice (Rect.unit (s := S8x128) off S1x128.size inb) (fun _ => rfl)).view.WordExact}
    {hdst : (mM.slice (Rect.unit (s := S8x128) off' S1x128.size inb') (fun _ => rfl)).view.WordExact}
    {hsem : DmaTarget.Typed .vmem (.dma rS) (.remote (Dev.tc n : Thread nD τ) (mM.slice (Rect.unit (s := S8x128) off' S1x128.size inb') (fun _ => rfl)) (.dma sS) hsc)} :
    records m K ⊢ iprop(Owe c ((1, s) :: l) -∗ mTok c s -∗ mPts c c (lend s) (mAll m) -∗ (∃ f, mPts (nx s c) c fullShare f)
      -∗ ((Owe c l ∗ awaits c 2 s) -∗ WP c (k ⟨⟩) Q)
          -∗ WP c (.op (.enqueueDma (mM.slice (Rect.unit (s := S8x128) off S1x128.size inb) (fun _ => rfl))
              (.remote (Dev.tc n : Thread nD τ) (mM.slice (Rect.unit (s := S8x128) off' S1x128.size inb') (fun _ => rfl)) (.dma sS) hsc) (.dma rS) hsrc hdst hsem) k) Q) := by
  subst hn; subst ho; subst ho'; subst hs; subst hr
  unfold Owe mTok
  iintro #HR ⟨%W, HO⟩ ⟨Ht1, Ht2, Hat⟩ Hs ⟨%f, Hd⟩ Hk
  iapply (Rounds.wp_send_pointsTo 𝒱₀ ER (sched m) (c : Thread nD τ) none (κ₁ := K (c, some (2, s))) (κ₂ := K (nx s c, some (3, s)))
    (r₁ := 0) (r₂ := 0) (d₁ := 0) (d₂ := 0) (c' := (nx s c : Thread nD τ)) (src := mRow c) (dst := mRow c) (fd := f) (fs := mAll m) (q := lend s)
    (by rw [duties_x]; exact Finset.mem_singleton_self _) (by rw [duties_x]; exact Finset.mem_singleton_self _)
    () () NM rfl (amount_x m c 2 s 0) (amount_x m (nx s c) 3 s 0) (owing c l) rfl (W := W)
    (by rw [payload_x]; exact Entails.of_eq (by show _ = mPts c c (lend s) (mAll m); unfold mPts; rw [← mRow_set]))
    (by
      rw [payload_x]
      refine Entails.trans (Entails.of_eq ?_) ((mRow_landed m (nx s c) c f).trans (Entails.of_eq ?_))
      · unfold mPts; rw [← mRow_set]
      · show _ = mPts (nx s c) (pv s (nx s c)) fullShare (mAll m); rw [pv_nx])) $$ [HO Ht1 Ht2 Hs Hd]
  · isplitr; · iapply (inv_at m K (c, some (2, s))); iexact HR
    isplitr; · iapply (inv_at m K (nx s c, some (3, s))); iexact HR
    isplitl [Hs]; · iapply (show mPts c c (lend s) (mAll m) ⊢ _ from Entails.of_eq (by unfold mPts; rw [← mRow_set])); iexact Hs
    isplitl [Hd]; · iapply (show mPts (nx s c) c fullShare f ⊢ _ from Entails.of_eq (by unfold mPts; rw [← mRow_set])); iexact Hd
    isplitl [HO]; · iexact HO
    isplitl [Ht1]; · iexact Ht1
    isplitr; · iapply (reached_at m K (c, some (2, s))); iexact HR
    isplitl [Ht2]; · iexact Ht2
    iapply (reached_at m K (nx s c, some (3, s))); iexact HR
  iintro ⟨Hc, HO⟩
  iapply Hk
  isplitl [HO]; · iexists W; iexact HO
  unfold awaits
  isplitl [Hat]; · iexact Hat
  iexact Hc

/-- Copy `s` of device `c`'s slab of weights, to slab `c` of device `nx s c`. -/
theorem wp_sendW {α : Type} {Q : α → sProp 𝕄} {k : PUnit → Prog (TpuEff nD τ sig (Elt F) Λ₀ .tc) α}
    (c n : Dev nD) (s : Fin 7) (l : List Due) (hn : n = nx s c)
    {off off' : Fin 4 → Nat} {inb inb'} (ho : off = ![c.val, 0, 0, 0]) (ho' : off' = ![c.val, 0, 0, 0])
    {sS rS : DmaSem sig} (hs : sS = xS 0 s) (hr : rS = xS 1 s)
    {hsc : (wM.slice (Rect.unit (s := S8x2x256x512) off' S1x2x256x512.size inb') (fun _ => rfl) : Memref sig (Dev.tc n : Thread nD τ).2.kind .vmem S1x2x256x512 .i8).view.ref.isScScratch = false}
    {hsrc : (wM.slice (Rect.unit (s := S8x2x256x512) off S1x2x256x512.size inb) (fun _ => rfl)).view.WordExact}
    {hdst : (wM.slice (Rect.unit (s := S8x2x256x512) off' S1x2x256x512.size inb') (fun _ => rfl)).view.WordExact}
    {hsem : DmaTarget.Typed .vmem (.dma rS) (.remote (Dev.tc n : Thread nD τ) (wM.slice (Rect.unit (s := S8x2x256x512) off' S1x2x256x512.size inb') (fun _ => rfl)) (.dma sS) hsc)} :
    records m K ⊢ iprop(Owe c ((2, s) :: l) -∗ wTok c s -∗ wPts c c (lend s) (wAll m) -∗ (∃ f, wPts (nx s c) c fullShare f)
      -∗ ((Owe c l ∗ awaits c 0 s) -∗ WP c (k ⟨⟩) Q)
          -∗ WP c (.op (.enqueueDma (wM.slice (Rect.unit (s := S8x2x256x512) off S1x2x256x512.size inb) (fun _ => rfl))
              (.remote (Dev.tc n : Thread nD τ) (wM.slice (Rect.unit (s := S8x2x256x512) off' S1x2x256x512.size inb') (fun _ => rfl)) (.dma sS) hsc) (.dma rS) hsrc hdst hsem) k) Q) := by
  subst hn; subst ho; subst ho'; subst hs; subst hr
  unfold Owe wTok
  iintro #HR ⟨%W, HO⟩ ⟨Ht1, Ht2, Hat⟩ Hs ⟨%f, Hd⟩ Hk
  iapply (Rounds.wp_send_pointsTo 𝒱₀ ER (sched m) (c : Thread nD τ) none (κ₁ := K (c, some (0, s))) (κ₂ := K (nx s c, some (1, s)))
    (r₁ := 0) (r₂ := 0) (d₁ := 0) (d₂ := 0) (c' := (nx s c : Thread nD τ)) (src := wRow c) (dst := wRow c) (fd := f) (fs := wAll m) (q := lend s)
    (by rw [duties_x]; exact Finset.mem_singleton_self _) (by rw [duties_x]; exact Finset.mem_singleton_self _)
    () () NW rfl (amount_x m c 0 s 0) (amount_x m (nx s c) 1 s 0) (owing c l) rfl (W := W)
    (by rw [payload_x]; exact Entails.of_eq (by show _ = wPts c c (lend s) (wAll m); unfold wPts; rw [← wRow_set]))
    (by
      rw [payload_x]
      refine Entails.trans (Entails.of_eq ?_) ((wRow_landed m (nx s c) c f).trans (Entails.of_eq ?_))
      · unfold wPts; rw [← wRow_set]
      · show _ = wPts (nx s c) (pv s (nx s c)) fullShare (wAll m); rw [pv_nx])) $$ [HO Ht1 Ht2 Hs Hd]
  · isplitr; · iapply (inv_at m K (c, some (0, s))); iexact HR
    isplitr; · iapply (inv_at m K (nx s c, some (1, s))); iexact HR
    isplitl [Hs]; · iapply (show wPts c c (lend s) (wAll m) ⊢ _ from Entails.of_eq (by unfold wPts; rw [← wRow_set])); iexact Hs
    isplitl [Hd]; · iapply (show wPts (nx s c) c fullShare f ⊢ _ from Entails.of_eq (by unfold wPts; rw [← wRow_set])); iexact Hd
    isplitl [HO]; · iexact HO
    isplitl [Ht1]; · iexact Ht1
    isplitr; · iapply (reached_at m K (c, some (0, s))); iexact HR
    isplitl [Ht2]; · iexact Ht2
    iapply (reached_at m K (nx s c, some (1, s))); iexact HR
  iintro ⟨Hc, HO⟩
  iapply Hk
  isplitl [HO]; · iexists W; iexact HO
  unfold awaits
  isplitl [Hat]; · iexact Hat
  iexact Hc

/-! ### Loads and stores of rows -/

theorem mAccess_set (d : Dev nD) : (mM.access (mRect d)).set = mSet d := View.set_slice_whole _ _
theorem wAccess_set (d : Dev nD) : (wM.access (wRect d)).set = wSet d := View.set_slice_whole _ _

/-- A load of row `d` of the filled counts buffer gives what device `d` sends. -/
theorem wp_loadM {α : Type} {Q : α → sProp 𝕄} (c d : Dev nD) (q : PosShare TreeShare) {off : Fin 2 → Nat} {inb} (ho : off = ![d.val, 0])
    {hl : mM.view.LoadsAt (Rect.unit (s := S8x128) off S1x128.size inb).toLoadRect} {kk : Vec F S1x128 .f32 → Prog (TpuEff nD τ sig (Elt F) Λ₀ .tc) α} :
    mPts c d q (mAll m) ⊢ iprop((mPts c d q (mAll m) -∗ WP c (kk (mVal m d)) Q)
      -∗ WP c (.op (.load mM (Rect.unit (s := S8x128) off S1x128.size inb).toLoadRect hl) kk) Q) := by
  subst ho
  unfold mPts
  rw [← read_mAll m d]
  exact wp_load_rect 𝒱₀ (c : Thread nD τ) none Set.univ (m := mM) (r := mRect d) (by rw [mAccess_set])
theorem wp_loadW {α : Type} {Q : α → sProp 𝕄} (c d : Dev nD) (q : PosShare TreeShare) {off : Fin 4 → Nat} {inb} (ho : off = ![d.val, 0, 0, 0])
    {hl : wM.view.LoadsAt (Rect.unit (s := S8x2x256x512) off S1x2x256x512.size inb).toLoadRect} {kk : Vec F S1x2x256x512 .i8 → Prog (TpuEff nD τ sig (Elt F) Λ₀ .tc) α} :
    wPts c d q (wAll m) ⊢ iprop((wPts c d q (wAll m) -∗ WP c (kk (wVal m d)) Q)
      -∗ WP c (.op (.load wM (Rect.unit (s := S8x2x256x512) off S1x2x256x512.size inb).toLoadRect hl) kk) Q) := by
  subst ho
  unfold wPts
  rw [← read_wAll m d]
  exact wp_load_rect 𝒱₀ (c : Thread nD τ) none Set.univ (m := wM) (r := wRect d) (by rw [wAccess_set])

/-- The store of device `c`'s own row, with the load before it whose value is not used. -/
theorem wp_storeM {α : Type} {Q : α → sProp 𝕄} {k : PUnit → Prog (TpuEff nD τ sig (Elt F) Λ₀ .tc) α}
    (c : Dev nD) {off : Fin 2 → Nat} {inb inb'} (ho : off = ![c.val, 0])
    {hl : mM.view.LoadsAt (Rect.unit (s := S8x128) off S1x128.size inb).toLoadRect}
    {w : Vec F S1x128 .f32} (hw : w = mVal m c) {hx : (mM.access (Rect.unit (s := S8x128) off S1x128.size inb')).Stores Finset.univ} {hm}
    (f : Buf (Elt F) ((c : Thread nD τ).loc cc0_scratch1)) :
    mPts c c fullShare f ⊢ iprop((mPts c c fullShare (mAll m) -∗ WP c (k ⟨⟩) Q)
      -∗ WP c (.op (.load mM (Rect.unit (s := S8x128) off S1x128.size inb).toLoadRect hl)
          fun _ => .op (.store mM (Rect.unit (s := S8x128) off S1x128.size inb') w Finset.univ hx hm) k) Q) := by
  subst ho; subst hw
  iintro H Hk
  unfold mPts
  iapply (wp_load_rect 𝒱₀ (c : Thread nD τ) none Set.univ (m := mM) (r := mRect c) (by rw [mAccess_set])) $$ H
  iintro H
  iapply (wp_store 𝒱₀ (c : Thread nD τ) none Set.univ (m := mM) (r := mRect c) (Mk := Finset.univ)
    (by rw [View.setOn_univ, mAccess_set])) $$ H
  iintro H
  iapply Hk
  have e := mRow_landed m c c f
  unfold mPts at e
  rw [read_mAll] at e
  iapply e; iexact H
theorem wp_storeW {α : Type} {Q : α → sProp 𝕄} {k : PUnit → Prog (TpuEff nD τ sig (Elt F) Λ₀ .tc) α}
    (c : Dev nD) {off : Fin 4 → Nat} {inb inb'} (ho : off = ![c.val, 0, 0, 0])
    {hl : wM.view.LoadsAt (Rect.unit (s := S8x2x256x512) off S1x2x256x512.size inb).toLoadRect}
    {w : Vec F S1x2x256x512 .i8} (hw : w = wVal m c) {hx : (wM.access (Rect.unit (s := S8x2x256x512) off S1x2x256x512.size inb')).Stores Finset.univ} {hm}
    (f : Buf (Elt F) ((c : Thread nD τ).loc cc0_scratch0)) :
    wPts c c fullShare f ⊢ iprop((wPts c c fullShare (wAll m) -∗ WP c (k ⟨⟩) Q)
      -∗ WP c (.op (.load wM (Rect.unit (s := S8x2x256x512) off S1x2x256x512.size inb).toLoadRect hl)
          fun _ => .op (.store wM (Rect.unit (s := S8x2x256x512) off S1x2x256x512.size inb') w Finset.univ hx hm) k) Q) := by
  subst ho; subst hw
  iintro H Hk
  unfold wPts
  iapply (wp_load_rect 𝒱₀ (c : Thread nD τ) none Set.univ (m := wM) (r := wRect c) (by rw [wAccess_set])) $$ H
  iintro H
  iapply (wp_store 𝒱₀ (c : Thread nD τ) none Set.univ (m := wM) (r := wRect c) (Mk := Finset.univ)
    (by rw [View.setOn_univ, wAccess_set])) $$ H
  iintro H
  iapply Hk
  have e := wRow_landed m c c f
  unfold wPts at e
  rw [read_wAll] at e
  iapply e; iexact H

end Cert.KernelIdeal.Exchange
end
-- ==== Proof.KernelIdealParts.lean ====
/-
The kernel's body part by part: what each part needs, and what it leaves and returns.
-/
module

public import proofs.«01_k».proof.Proof.KernelIdealSteps

@[expose] public section

noncomputable section

namespace Cert.KernelIdeal.Exchange

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (K : Dev nD × CI → ℕ)

/-! ## What is still owed after each payment -/

abbrev D21 : List Due := []
abbrev D20 : List Due := (2, 3) :: D21
abbrev D19 : List Due := (2, 4) :: D20
abbrev D18 : List Due := (2, 2) :: D19
abbrev D17 : List Due := (2, 5) :: D18
abbrev D16 : List Due := (2, 1) :: D17
abbrev D15 : List Due := (2, 6) :: D16
abbrev D14 : List Due := (2, 0) :: D15
abbrev D13 : List Due := (1, 6) :: D14
abbrev D12 : List Due := (1, 5) :: D13
abbrev D11 : List Due := (1, 4) :: D12
abbrev D10 : List Due := (1, 3) :: D11
abbrev D9 : List Due := (1, 2) :: D10
abbrev D8 : List Due := (1, 1) :: D9
abbrev D7 : List Due := (1, 0) :: D8
abbrev D6 : List Due := (0, 6) :: D7
abbrev D5 : List Due := (0, 5) :: D6
abbrev D0 : List Due := (0, 0) :: (0, 1) :: (0, 2) :: (0, 3) :: (0, 4) :: D5

/-! ## The addressed devices -/

theorem dev1_eq (c : Dev nD) : (⟨k0_dev1 c, k0_dev1_lt c⟩ : Dev nD) = nx 0 c := Fin.ext (k0_dev1_eq c)
theorem dev2_eq (c : Dev nD) : (⟨k0_dev2 c, k0_dev2_lt c⟩ : Dev nD) = nx 1 c := Fin.ext (k0_dev2_eq c)
theorem dev3_eq (c : Dev nD) : (⟨k0_dev3 c, k0_dev3_lt c⟩ : Dev nD) = nx 2 c := Fin.ext (k0_dev3_eq c)
theorem dev4_eq (c : Dev nD) : (⟨k0_dev4 c, k0_dev4_lt c⟩ : Dev nD) = nx 3 c := Fin.ext (k0_dev4_eq c)
theorem dev5_eq (c : Dev nD) : (⟨k0_dev5 c, k0_dev5_lt c⟩ : Dev nD) = nx 4 c := Fin.ext (k0_dev5_eq c)
theorem dev6_eq (c : Dev nD) : (⟨k0_dev6 c, k0_dev6_lt c⟩ : Dev nD) = nx 5 c := Fin.ext (k0_dev6_eq c)
theorem dev7_eq (c : Dev nD) : (⟨k0_dev7 c, k0_dev7_lt c⟩ : Dev nD) = nx 6 c := Fin.ext (k0_dev7_eq c)
theorem dev8_eq (c : Dev nD) : (⟨k0_dev8 c, k0_dev8_lt c⟩ : Dev nD) = nx 0 c := Fin.ext (k0_dev8_eq c)
theorem dev9_eq (c : Dev nD) : (⟨k0_dev9 c, k0_dev9_lt c⟩ : Dev nD) = nx 1 c := Fin.ext (k0_dev9_eq c)
theorem dev10_eq (c : Dev nD) : (⟨k0_dev10 c, k0_dev10_lt c⟩ : Dev nD) = nx 2 c := Fin.ext (k0_dev10_eq c)
theorem dev11_eq (c : Dev nD) : (⟨k0_dev11 c, k0_dev11_lt c⟩ : Dev nD) = nx 3 c := Fin.ext (k0_dev11_eq c)
theorem dev12_eq (c : Dev nD) : (⟨k0_dev12 c, k0_dev12_lt c⟩ : Dev nD) = nx 4 c := Fin.ext (k0_dev12_eq c)
theorem dev13_eq (c : Dev nD) : (⟨k0_dev13 c, k0_dev13_lt c⟩ : Dev nD) = nx 5 c := Fin.ext (k0_dev13_eq c)
theorem dev14_eq (c : Dev nD) : (⟨k0_dev14 c, k0_dev14_lt c⟩ : Dev nD) = nx 6 c := Fin.ext (k0_dev14_eq c)
theorem dev15_eq (c : Dev nD) : (⟨k0_dev15 c, k0_dev15_lt c⟩ : Dev nD) = nx 0 c := Fin.ext (k0_dev15_eq c)
theorem dev16_eq (c : Dev nD) : (⟨k0_dev16 c, k0_dev16_lt c⟩ : Dev nD) = nx 6 c := Fin.ext (k0_dev16_eq c)
theorem dev17_eq (c : Dev nD) : (⟨k0_dev17 c, k0_dev17_lt c⟩ : Dev nD) = nx 1 c := Fin.ext (k0_dev17_eq c)
theorem dev18_eq (c : Dev nD) : (⟨k0_dev18 c, k0_dev18_lt c⟩ : Dev nD) = nx 5 c := Fin.ext (k0_dev18_eq c)
theorem dev19_eq (c : Dev nD) : (⟨k0_dev19 c, k0_dev19_lt c⟩ : Dev nD) = nx 2 c := Fin.ext (k0_dev19_eq c)
theorem dev20_eq (c : Dev nD) : (⟨k0_dev20 c, k0_dev20_lt c⟩ : Dev nD) = nx 4 c := Fin.ext (k0_dev20_eq c)
theorem dev21_eq (c : Dev nD) : (⟨k0_dev21 c, k0_dev21_lt c⟩ : Dev nD) = nx 3 c := Fin.ext (k0_dev21_eq c)

/-! ## The values along the body -/

/-- The device's own number, and the number of the device `r + 1` places before it, as the kernel computes them. -/
abbrev idW (c : Dev nD) : BitVec 32 := Scalar.remsi (Scalar.divsi (Dev.word c) 1#32) 8#32
abbrev prevW (c : Dev nD) (r : BitVec 32) : BitVec 32 :=
  Scalar.remsi (Scalar.addi (Scalar.subi (Scalar.subi (idW c) r) 1#32) 8#32) 8#32

/-- The accumulator after the device's own experts, and after those of the devices 1, 7, 2, 6, 3, 5, 4 places before it. -/
def acc0 (c : Dev nD) : FVec F S512x512 .f32 :=
  k0_pay12 (k0_pay9 (F := F)) (k0_pay10 (idW c) (k0_pay2 (estg m c)) (k0_pay3 (istg m c)) (xstg m c)) (k0_pay11 (wVal m c))
def acc1 (c : Dev nD) : FVec F S512x512 .f32 :=
  k0_pay17 (k0_pay8 (xstg m c)) (acc0 m c) (k0_pay14 (mVal m (pv 0 c))) (k0_pay15 (idW c) (k0_pay3 (istg m c)) (mVal m (pv 0 c)))
    (k0_pay16 (idW c) (k0_pay3 (istg m c))) (wVal m (pv 0 c))
def acc2 (c : Dev nD) : FVec F S512x512 .f32 :=
  k0_pay18 (k0_pay3 (istg m c)) (k0_pay8 (xstg m c)) (acc1 m c) (prevW c 6#32) (mVal m (pv 6 c)) (wVal m (pv 6 c))
def acc3 (c : Dev nD) : FVec F S512x512 .f32 :=
  k0_pay20 (acc2 m c) (k0_pay19 (k0_pay3 (istg m c)) (k0_pay8 (xstg m c)) (prevW c 1#32) (mVal m (pv 1 c)) (wVal m (pv 1 c)))
def acc4 (c : Dev nD) : FVec F S512x512 .f32 :=
  k0_pay24 (k0_pay8 (xstg m c)) (acc3 m c) (k0_pay21 (mVal m (pv 5 c))) (k0_pay22 (idW c) (k0_pay3 (istg m c)) (mVal m (pv 5 c)))
    (k0_pay23 (idW c) (k0_pay3 (istg m c))) (wVal m (pv 5 c))
def acc5 (c : Dev nD) : FVec F S512x512 .f32 :=
  k0_pay25 (k0_pay3 (istg m c)) (k0_pay8 (xstg m c)) (acc4 m c) (prevW c 2#32) (mVal m (pv 2 c)) (wVal m (pv 2 c))
def acc6 (c : Dev nD) : FVec F S512x512 .f32 :=
  k0_pay27 (acc5 m c) (k0_pay26 (k0_pay3 (istg m c)) (k0_pay8 (xstg m c)) (prevW c 4#32) (mVal m (pv 4 c)) (wVal m (pv 4 c)))
def acc7 (c : Dev nD) : FVec F S512x512 .f32 :=
  k0_pay31 (k0_pay8 (xstg m c)) (acc6 m c) (k0_pay28 (mVal m (pv 3 c))) (k0_pay29 (idW c) (k0_pay3 (istg m c)) (mVal m (pv 3 c)))
    (k0_pay30 (idW c) (k0_pay3 (istg m c))) (wVal m (pv 3 c))
/-- The kernel's result on device `c`. -/
def outAt (c : Dev nD) : (cc0_stg3_0 : Ref sig .tc).ty.Contents (Elt F) :=
  k0_pay32 (idW c) (k0_pay4 (istg m c)) (k0_pay13 (k0_pay4 (istg m c))) (acc7 m c) (mAll m)

/-! ## The parts -/

/-- A part of the body at the buffers and semaphores the launch gives it. -/
abbrev withArgs {β : Type 1} (f : (arg0 : Memref sig .tc .vmem S512x256 .bf16) → arg0.IsWhole → (arg1 : Memref sig .tc .vmem S512x1 .i32) → arg1.IsWhole →
    (arg2 : Memref sig .tc .vmem S2x256x512 .bf16) → arg2.IsWhole → (arg3 : Memref sig .tc .vmem S512x512 .f32) → arg3.IsWhole →
    (arg4 : Memref sig .tc .vmem S8x2x256x512 .i8) → arg4.IsWhole → (arg5 : Memref sig .tc .vmem S8x128 .f32) → arg5.IsWhole →
    DmaSems sig S7 → DmaSems sig S7 → DmaSems sig S7 → DmaSems sig S7 → β) : β :=
  f xM (Memref.isWhole_whole _) iM (Memref.isWhole_whole _) eM (Memref.isWhole_whole _) oM (Memref.isWhole_whole _)
    wM (Memref.isWhole_whole _) mM (Memref.isWhole_whole _) cc0_scratch2 cc0_scratch3 cc0_scratch4 cc0_scratch5

/-- A staging buffer of device `c`, whole. -/
abbrev stgPts (c : Dev nD) (b : Ref sig .tc) (f : Buf (Elt F) ((c : Thread nD τ).loc b)) : sProp 𝕄 := ((c : Thread nD τ).loc b) ↦{fullShare} f

/-- Row `c` on device `nx s c`, and slab `c` there, contents arbitrary. -/
abbrev mSlot (c : Dev nD) (s : Fin 7) : sProp 𝕄 := iprop(∃ f, mPts (nx s c) c fullShare f)
abbrev wSlot (c : Dev nD) (s : Fin 7) : sProp 𝕄 := iprop(∃ f, wPts (nx s c) c fullShare f)
abbrev mLent (c : Dev nD) (s : Fin 7) : sProp 𝕄 := mPts c c (lend s) (mAll m)
abbrev wLent (c : Dev nD) (s : Fin 7) : sProp 𝕄 := wPts c c (lend s) (wAll m)
/-- A transfer semaphore waited on, back at zero, and what its copy handed over. -/
abbrev spent (c : Dev nD) (k : Fin 4) (s : Fin 7) : sProp 𝕄 := iprop(semVal (xCell c k s) 0 ∗ xPay m c k s)

/-- A finished program holds its postcondition of its result. -/
theorem wp_done {c : Dev nD} {α : Type} {a : α} {Q : α → sProp 𝕄} :
    Q a ⊢ wp frame (wpE (defs₀ (F := F)) 𝒱₀ (c : Thread nD τ) none) Set.univ (.ret a : Prog (TpuEff nD τ sig (Elt F) Λ₀ .tc) α) Q := by
  rw [wp_ret]; iintro H; imodintro; iexact H

theorem part1_run (c : Dev nD) (Kt : _ → sProp 𝕄) :
    records m K ⊢ iprop(Owe c D0 -∗ sigTok c 0 -∗ slots c (nx 0 c) -∗ sigTok c 1 -∗ slots c (nx 1 c) -∗ sigTok c 2 -∗ slots c (nx 2 c)
      -∗ sigTok c 3 -∗ slots c (nx 3 c) -∗ sigTok c 4 -∗ slots c (nx 4 c)
      -∗ (Owe c D5 -∗ Kt ⟨c, idW c, SemArray.scalar (sig.barrier 0 rfl), Scalar.addi (idW c) 6#32, 8#32⟩)
      -∗ WP c (withArgs (k0_part1 (F := F))) Kt) := by
  rw [k0_part1_eq_skeleton]; unfold withArgs k0_part1_skel
  simp only [semSignalWord, Prog.lift, Prog.bind_op, Prog.bind_ret, Prog.pure_eq_ret, wp_deviceId]
  iintro #HR HO T0 S0 T1 S1 T2 S2 T3 S3 T4 S4 Hk
  iapply (wp_sig m K c _ 0 _ (dev1_eq c) rfl) $$ HR HO T0 S0; iintro HO
  iapply (wp_sig m K c _ 1 _ (dev2_eq c) rfl) $$ HR HO T1 S1; iintro HO
  iapply (wp_sig m K c _ 2 _ (dev3_eq c) rfl) $$ HR HO T2 S2; iintro HO
  iapply (wp_sig m K c _ 3 _ (dev4_eq c) rfl) $$ HR HO T3 S3; iintro HO
  iapply (wp_sig m K c _ 4 _ (dev5_eq c) rfl) $$ HR HO T4 S4; iintro HO
  iapply wp_done
  iapply Hk $$ HO

/-- Seven resources, one after the other. -/
theorem bigSep_fin7 (Φ : Fin 7 → sProp 𝕄) : BI.bigSep Finset.univ Φ = iprop(Φ 0 ∗ Φ 1 ∗ Φ 2 ∗ Φ 3 ∗ Φ 4 ∗ Φ 5 ∗ Φ 6) := by
  rw [BI.bigSep_univ_eq_bigSepL [0, 1, 2, 3, 4, 5, 6] (by decide) (by decide)]; rfl

/-- A device's own row and its own slab, lent to their seven copies. -/
theorem mLend (c : Dev nD) : mPts c c fullShare (mAll m) ⊢ iprop(mPts c c kept (mAll m) ∗ mLent m c 0 ∗ mLent m c 1 ∗ mLent m c 2 ∗ mLent m c 3
    ∗ mLent m c 4 ∗ mLent m c 5 ∗ mLent m c 6) := by
  rw [← bigSep_fin7 (fun s => mLent m c s)]
  exact Transfers.pointsTo_toks_split fullShare 7
theorem wLend (c : Dev nD) : wPts c c fullShare (wAll m) ⊢ iprop(wPts c c kept (wAll m) ∗ wLent m c 0 ∗ wLent m c 1 ∗ wLent m c 2 ∗ wLent m c 3
    ∗ wLent m c 4 ∗ wLent m c 5 ∗ wLent m c 6) := by
  rw [← bigSep_fin7 (fun s => wLent m c s)]
  exact Transfers.pointsTo_toks_split fullShare 7
/-- Both whole again. -/
theorem mUnlend (c : Dev nD) : iprop(mPts c c kept (mAll m) ∗ mLent m c 0 ∗ mLent m c 1 ∗ mLent m c 2 ∗ mLent m c 3
    ∗ mLent m c 4 ∗ mLent m c 5 ∗ mLent m c 6) ⊢ mPts c c fullShare (mAll m) := by
  rw [← bigSep_fin7 (fun s => mLent m c s)]
  exact Transfers.pointsTo_toks_join fullShare 7
theorem wUnlend (c : Dev nD) : iprop(wPts c c kept (wAll m) ∗ wLent m c 0 ∗ wLent m c 1 ∗ wLent m c 2 ∗ wLent m c 3
    ∗ wLent m c 4 ∗ wLent m c 5 ∗ wLent m c 6) ⊢ wPts c c fullShare (wAll m) := by
  rw [← bigSep_fin7 (fun s => wLent m c s)]
  exact Transfers.pointsTo_toks_join fullShare 7

theorem hz2 : (![0, 0] : Fin 2 → Nat) = fun _ => 0 := funext fun a => by fin_cases a <;> rfl
theorem hz3 : (![0, 0, 0] : Fin 3 → Nat) = fun _ => 0 := funext fun a => by fin_cases a <;> rfl

theorem part2_run (c : Dev nD) (v2 : BitVec 32) (v24 : BitVec 32) (w : BitVec 32) (Kt : _ → sProp 𝕄) :
    records m K ⊢ iprop(levAts L lv -∗ Owe c D5 -∗ sigTok c 5 -∗ slots c (nx 5 c) -∗ sigTok c 6 -∗ slots c (nx 6 c)
      -∗ atPos ER (barCell c) 0 ∅ 0 -∗ cred (tallyAt (barCell c) () 7) -∗ stgPts c cc0_stg1_0 (istg m c) -∗ stgPts c cc0_stg2_0 (estg m c)
      -∗ ((Owe c D7 ∗ semVal (barCell c) 0 ∗ (bigSep Finset.univ fun s : Fin 7 => slots (nx s c) c)
            ∗ stgPts c cc0_stg1_0 (istg m c) ∗ stgPts c cc0_stg2_0 (estg m c))
          -∗ Kt ⟨k0_pay1 (estg m c), k0_pay2 (estg m c), k0_pay3 (istg m c), k0_pay4 (istg m c), k0_pay5 (estg m c) (istg m c)⟩)
      -∗ WP c (withArgs (k0_part2 (F := F)) c v2 (SemArray.scalar (sig.barrier 0 rfl)) v24 w) Kt) := by
  rw [k0_part2_eq_skeleton]; unfold withArgs k0_part2_skel
  simp only [semSignalWord, semWaitWord, Prog.lift, Prog.bind_op, Prog.bind_ret, Prog.pure_eq_ret]
  iintro #HR #Hlev HO T5 S5 T6 S6 Hat Hc Hi He Hk
  iapply (wp_sig m K c _ 5 _ (dev6_eq c) rfl) $$ HR HO T5 S5; iintro HO
  iapply (wp_sig m K c _ 6 _ (dev7_eq c) rfl) $$ HR HO T6 S6; iintro HO
  iapply (wp_bar m K c D7 (by decide) rfl) $$ HR Hlev HO Hat Hc; iintro ⟨HO, Hz, Hs⟩
  iapply (wp_load 𝒱₀ (c : Thread nD τ) none Set.univ (m := eM) (Finset.subset_univ _)) $$ He; iintro He
  rw [show eM.view.readAt (Elt F) (Rect.unit (s := S2x256x512) ![0, 0, 0] S2x256x512.size inb_S2x256x512_S2x256x512_0_0_0).toLoadRect (estg m c) = estg m c from
    Memref.readAt_unit_zero (Elt F) cc0_stg2_0 hz3 _ _]
  iapply (wp_load 𝒱₀ (c : Thread nD τ) none Set.univ (m := iM) (Finset.subset_univ _)) $$ Hi; iintro Hi
  rw [show iM.view.readAt (Elt F) (Rect.unit (s := S512x1) ![0, 0] S512x1.size inb_S512x1_S512x1_0_0).toLoadRect (istg m c) = istg m c from
    Memref.readAt_unit_zero (Elt F) cc0_stg1_0 hz2 _ _]
  iapply wp_done
  iapply Hk
  iframe

theorem part3_run (c : Dev nD) (v2 : BitVec 32) (Kt : _ → sProp 𝕄) (f : Buf (Elt F) ((c : Thread nD τ).loc cc0_scratch1)) :
    records m K ⊢ iprop(Owe c D7 -∗ mPts c c fullShare f -∗ mTok c 0 -∗ mSlot c 0 -∗ mTok c 1 -∗ mSlot c 1
      -∗ ((Owe c D9 ∗ awaits c 2 0 ∗ awaits c 2 1 ∗ mPts c c kept (mAll m)
            ∗ mLent m c 2 ∗ mLent m c 3 ∗ mLent m c 4 ∗ mLent m c 5 ∗ mLent m c 6) -∗ Kt ⟨⟩)
      -∗ WP c (withArgs (k0_part3 (F := F)) c v2 (k0_pay5 (estg m c) (istg m c))) Kt) := by
  rw [k0_part3_eq_skeleton]; unfold withArgs k0_part3_skel
  simp only [Prog.lift, Prog.bind_op, Prog.bind_ret, Prog.pure_eq_ret]
  iintro #HR HO Hm T0 S0 T1 S1 Hk
  iapply (wp_storeM m c (k0_off1_eq c) rfl f) $$ Hm; iintro Hm
  ihave Hm := (mLend m c) $$ Hm
  icases Hm with ⟨Hm, L0, L1, L2, L3, L4, L5, L6⟩
  iapply (wp_sendM m K c _ 0 _ (dev8_eq c) (k0_off2_eq c) (k0_off2_eq c) rfl rfl) $$ HR HO T0 L0 S0; iintro ⟨HO, A0⟩
  iapply (wp_sendM m K c _ 1 _ (dev9_eq c) (k0_off2_eq c) (k0_off2_eq c) rfl rfl) $$ HR HO T1 L1 S1; iintro ⟨HO, A1⟩
  iapply wp_done
  iapply Hk
  iframe

theorem part4_run (c : Dev nD) (v2 : BitVec 32) (Kt : _ → sProp 𝕄) :
    records m K ⊢ iprop(Owe c D9 -∗ mTok c 2 -∗ mLent m c 2 -∗ mSlot c 2 -∗ mTok c 3 -∗ mLent m c 3 -∗ mSlot c 3
      -∗ mTok c 4 -∗ mLent m c 4 -∗ mSlot c 4 -∗ mTok c 5 -∗ mLent m c 5 -∗ mSlot c 5
      -∗ ((Owe c D13 ∗ awaits c 2 2 ∗ awaits c 2 3 ∗ awaits c 2 4 ∗ awaits c 2 5) -∗ Kt (Scalar.addi v2 7#32))
      -∗ wp frame (wpE (defs₀ (F := F)) 𝒱₀ (c : Thread nD τ) none) Set.univ (withArgs (k0_part4 (F := F)) c v2) Kt) := by
  rw [k0_part4_eq_skeleton]; unfold withArgs k0_part4_skel
  simp only [Prog.lift, Prog.bind_op, Prog.bind_ret, Prog.pure_eq_ret]
  iintro #HR HO T2 L2 S2 T3 L3 S3 T4 L4 S4 T5 L5 S5 Hk
  iapply (wp_sendM m K c _ 2 _ (dev10_eq c) (k0_off2_eq c) (k0_off2_eq c) rfl rfl) $$ HR HO T2 L2 S2; iintro ⟨HO, A2⟩
  iapply (wp_sendM m K c _ 3 _ (dev11_eq c) (k0_off2_eq c) (k0_off2_eq c) rfl rfl) $$ HR HO T3 L3 S3; iintro ⟨HO, A3⟩
  iapply (wp_sendM m K c _ 4 _ (dev12_eq c) (k0_off2_eq c) (k0_off2_eq c) rfl rfl) $$ HR HO T4 L4 S4; iintro ⟨HO, A4⟩
  iapply (wp_sendM m K c _ 5 _ (dev13_eq c) (k0_off2_eq c) (k0_off2_eq c) rfl rfl) $$ HR HO T5 L5 S5; iintro ⟨HO, A5⟩
  iapply wp_done
  iapply Hk
  iframe

/-- A transfer semaphore of the exchange back at zero. -/
abbrev zero (c : Dev nD) (k : Fin 4) (s : Fin 7) : sProp 𝕄 := semVal (xCell c k s) 0
/-- The row and the slab of the device `s + 1` places before, received whole. -/
abbrev mGot (c : Dev nD) (s : Fin 7) : sProp 𝕄 := mPts c (pv s c) fullShare (mAll m)
abbrev wGot (c : Dev nD) (s : Fin 7) : sProp 𝕄 := wPts c (pv s c) fullShare (wAll m)

/-- The four waits of the exchange with what each hands over spelt out. -/
theorem wp_ws {α : Type} {Q : α → sProp 𝕄} {k : PUnit → Prog (TpuEff nD τ sig (Elt F) Λ₀ .tc) α} (c : Dev nD) (s : Fin 7) (l : List Due)
    (hl : ∀ p ∈ l, lvS (.dma (xS 0 s)) < lvS (dueSem p))
    {q : DmaSem sig} (hq : q = xS 0 s) {o o' : Fin 4 → Nat} {ino ino'}
    {h1 : (wM.slice (Rect.unit (s := S8x2x256x512) o S1x2x256x512.size ino) (fun _ => rfl)).view.WordExact}
    {h2 : (wM.slice (Rect.unit (s := S8x2x256x512) o' S1x2x256x512.size ino') (fun _ => rfl)).view.WordExact} :
    records m K ⊢ iprop(levAts L lv -∗ Owe c l -∗ awaits c 0 s -∗ ((Owe c l ∗ zero c 0 s ∗ wLent m c s) -∗ WP c (k ⟨⟩) Q)
          -∗ WP c (.op (.waitDma2 q (wM.slice (Rect.unit (s := S8x2x256x512) o S1x2x256x512.size ino) (fun _ => rfl))
            (wM.slice (Rect.unit (s := S8x2x256x512) o' S1x2x256x512.size ino') (fun _ => rfl)) h1 h2) k) Q) :=
  wp_wait m K c 0 s l hl hq (Eq.trans (b := NW) rfl (if_pos (by decide)).symm)
theorem wp_wr {α : Type} {Q : α → sProp 𝕄} {k : PUnit → Prog (TpuEff nD τ sig (Elt F) Λ₀ .tc) α} (c : Dev nD) (s : Fin 7) (l : List Due)
    (hl : ∀ p ∈ l, lvS (.dma (xS 1 s)) < lvS (dueSem p))
    {q : DmaSem sig} (hq : q = xS 1 s) {o o' : Fin 4 → Nat} {ino ino'}
    {h1 : (wM.slice (Rect.unit (s := S8x2x256x512) o S1x2x256x512.size ino) (fun _ => rfl)).view.WordExact}
    {h2 : (wM.slice (Rect.unit (s := S8x2x256x512) o' S1x2x256x512.size ino') (fun _ => rfl)).view.WordExact} :
    records m K ⊢ iprop(levAts L lv -∗ Owe c l -∗ awaits c 1 s -∗ ((Owe c l ∗ zero c 1 s ∗ wGot m c s) -∗ WP c (k ⟨⟩) Q)
          -∗ WP c (.op (.waitDma2 q (wM.slice (Rect.unit (s := S8x2x256x512) o S1x2x256x512.size ino) (fun _ => rfl))
            (wM.slice (Rect.unit (s := S8x2x256x512) o' S1x2x256x512.size ino') (fun _ => rfl)) h1 h2) k) Q) :=
  wp_wait m K c 1 s l hl hq (Eq.trans (b := NW) rfl (if_pos (by decide)).symm)
theorem wp_ms {α : Type} {Q : α → sProp 𝕄} {k : PUnit → Prog (TpuEff nD τ sig (Elt F) Λ₀ .tc) α} (c : Dev nD) (s : Fin 7) (l : List Due)
    (hl : ∀ p ∈ l, lvS (.dma (xS 2 s)) < lvS (dueSem p))
    {q : DmaSem sig} (hq : q = xS 2 s) {o o' : Fin 2 → Nat} {ino ino'}
    {h1 : (mM.slice (Rect.unit (s := S8x128) o S1x128.size ino) (fun _ => rfl)).view.WordExact}
    {h2 : (mM.slice (Rect.unit (s := S8x128) o' S1x128.size ino') (fun _ => rfl)).view.WordExact} :
    records m K ⊢ iprop(levAts L lv -∗ Owe c l -∗ awaits c 2 s -∗ ((Owe c l ∗ zero c 2 s ∗ mLent m c s) -∗ WP c (k ⟨⟩) Q)
          -∗ WP c (.op (.waitDma2 q (mM.slice (Rect.unit (s := S8x128) o S1x128.size ino) (fun _ => rfl))
            (mM.slice (Rect.unit (s := S8x128) o' S1x128.size ino') (fun _ => rfl)) h1 h2) k) Q) :=
  wp_wait m K c 2 s l hl hq (Eq.trans (b := NM) rfl (if_neg (by decide)).symm)
theorem wp_mr {α : Type} {Q : α → sProp 𝕄} {k : PUnit → Prog (TpuEff nD τ sig (Elt F) Λ₀ .tc) α} (c : Dev nD) (s : Fin 7) (l : List Due)
    (hl : ∀ p ∈ l, lvS (.dma (xS 3 s)) < lvS (dueSem p))
    {q : DmaSem sig} (hq : q = xS 3 s) {o o' : Fin 2 → Nat} {ino ino'}
    {h1 : (mM.slice (Rect.unit (s := S8x128) o S1x128.size ino) (fun _ => rfl)).view.WordExact}
    {h2 : (mM.slice (Rect.unit (s := S8x128) o' S1x128.size ino') (fun _ => rfl)).view.WordExact} :
    records m K ⊢ iprop(levAts L lv -∗ Owe c l -∗ awaits c 3 s -∗ ((Owe c l ∗ zero c 3 s ∗ mGot m c s) -∗ WP c (k ⟨⟩) Q)
          -∗ WP c (.op (.waitDma2 q (mM.slice (Rect.unit (s := S8x128) o S1x128.size ino) (fun _ => rfl))
            (mM.slice (Rect.unit (s := S8x128) o' S1x128.size ino') (fun _ => rfl)) h1 h2) k) Q) :=
  wp_wait m K c 3 s l hl hq (Eq.trans (b := NM) rfl (if_neg (by decide)).symm)

/-- Where the rows and slabs received lie. -/
theorem row_at (c : Dev nD) (s : Fin 7) : k0_off7 c (BitVec.ofNat 32 s.val) = ![(pv s c).val, 0] := k0_off7_eq c s
theorem slab_at (c : Dev nD) (s : Fin 7) : k0_off8 c (BitVec.ofNat 32 s.val) = ![(pv s c).val, 0, 0, 0] := k0_off8_eq c s

theorem part5_run (c : Dev nD) (v2 v122 : BitVec 32) (Kt : _ → sProp 𝕄) (f : Buf (Elt F) ((c : Thread nD τ).loc cc0_scratch0)) :
    records m K ⊢ iprop(Owe c D13 -∗ mTok c 6 -∗ mLent m c 6 -∗ mSlot c 6 -∗ wPts c c fullShare f -∗ wTok c 0 -∗ wSlot c 0
      -∗ ((Owe c D15 ∗ awaits c 2 6 ∗ awaits c 0 0 ∗ wPts c c kept (wAll m)
            ∗ wLent m c 1 ∗ wLent m c 2 ∗ wLent m c 3 ∗ wLent m c 4 ∗ wLent m c 5 ∗ wLent m c 6) -∗ Kt ⟨Scalar.remsi (Scalar.addi v2 7#32) 8#32, 1#32⟩)
      -∗ WP c (withArgs (k0_part5 (F := F)) c v2 (k0_pay1 (estg m c)) (k0_pay2 (estg m c)) v122) Kt) := by
  rw [k0_part5_eq_skeleton]; unfold withArgs k0_part5_skel
  simp only [Prog.lift, Prog.bind_op, Prog.bind_ret, Prog.pure_eq_ret]
  iintro #HR HO T6 L6 S6 Hw T0 S0 Hk
  iapply (wp_sendM m K c _ 6 _ (dev14_eq c) (k0_off2_eq c) (k0_off2_eq c) rfl rfl) $$ HR HO T6 L6 S6; iintro ⟨HO, A6⟩
  iapply (wp_storeW m c (k0_off3_eq c) rfl f) $$ Hw; iintro Hw
  ihave Hw := (wLend m c) $$ Hw
  icases Hw with ⟨Hw, L0, L1, L2, L3, L4, L5, L6⟩
  iapply (wp_sendW m K c _ 0 _ (dev15_eq c) (k0_off4_eq c) (k0_off4_eq c) rfl rfl) $$ HR HO T0 L0 S0; iintro ⟨HO, A0⟩
  iapply wp_done
  iapply Hk
  iframe

theorem part6_run (c : Dev nD) (v2 v152 v1 : BitVec 32) (Kt : _ → sProp 𝕄) :
    records m K ⊢ iprop(Owe c D15 -∗ wTok c 6 -∗ wLent m c 6 -∗ wSlot c 6 -∗ stgPts c cc0_stg0_0 (xstg m c) -∗ wPts c c kept (wAll m)
      -∗ ((Owe c D16 ∗ awaits c 0 6 ∗ stgPts c cc0_stg0_0 (xstg m c) ∗ wPts c c kept (wAll m))
          -∗ Kt ⟨k0_pay8 (xstg m c), k0_pay9 (F := F), k0_pay10 v2 (k0_pay2 (estg m c)) (k0_pay3 (istg m c)) (xstg m c), k0_pay11 (wVal m c)⟩)
      -∗ WP c (withArgs (k0_part6 (F := F)) c v2 (k0_pay2 (estg m c)) (k0_pay3 (istg m c)) v152 v1) Kt) := by
  rw [k0_part6_eq_skeleton]; unfold withArgs k0_part6_skel
  simp only [Prog.lift, Prog.bind_op, Prog.bind_ret, Prog.pure_eq_ret]
  iintro #HR HO T6 L6 S6 Hx Hw Hk
  iapply (wp_sendW m K c _ 6 _ (dev16_eq c) (k0_off4_eq c) (k0_off4_eq c) rfl rfl) $$ HR HO T6 L6 S6; iintro ⟨HO, A6⟩
  iapply (wp_load 𝒱₀ (c : Thread nD τ) none Set.univ (m := xM) (Finset.subset_univ _)) $$ Hx; iintro Hx
  rw [show xM.view.readAt (Elt F) (Rect.unit (s := S512x256) ![0, 0] S512x256.size inb_S512x256_S512x256_0_0).toLoadRect (xstg m c) = xstg m c from
    Memref.readAt_unit_zero (Elt F) cc0_stg0_0 hz2 _ _]
  iapply (wp_loadW m c c kept (k0_off3_eq c)) $$ Hw; iintro Hw
  iapply wp_done
  iapply Hk
  iframe

theorem part7_run (c : Dev nD) (v2 : BitVec 32) (a b d) (Kt : _ → sProp 𝕄) :
    records m K ⊢ iprop(levAts L lv -∗ Owe c D16 -∗ awaits c 0 0 -∗ awaits c 0 6 -∗ wTok c 1 -∗ wLent m c 1 -∗ wSlot c 1
      -∗ ((Owe c D17 ∗ zero c 0 0 ∗ wLent m c 0 ∗ zero c 0 6 ∗ wLent m c 6 ∗ awaits c 0 1)
          -∗ Kt ⟨k0_pay12 a b d, Scalar.remsi (Scalar.addi v2 6#32) 8#32⟩)
      -∗ WP c (withArgs (k0_part7 (F := F)) c v2 a b d) Kt) := by
  rw [k0_part7_eq_skeleton]; unfold withArgs k0_part7_skel
  simp only [Prog.lift, Prog.bind_op, Prog.bind_ret, Prog.pure_eq_ret]
  iintro #HR #Hlev HO A0 A6 T1 L1 S1 Hk
  iapply (wp_ws m K c 0 D16 (by decide) rfl) $$ HR Hlev HO A0; iintro ⟨HO, Z0, L0⟩
  iapply (wp_ws m K c 6 D16 (by decide) rfl) $$ HR Hlev HO A6; iintro ⟨HO, Z6, L6⟩
  iapply (wp_sendW m K c _ 1 _ (dev17_eq c) (k0_off4_eq c) (k0_off4_eq c) rfl rfl) $$ HR HO T1 L1 S1; iintro ⟨HO, A1⟩
  iapply wp_done
  iapply Hk
  iframe

theorem part8_run (c : Dev nD) (v2 v215 : BitVec 32) (a) (Kt : _ → sProp 𝕄) :
    records m K ⊢ iprop(levAts L lv -∗ Owe c D17 -∗ wTok c 5 -∗ wLent m c 5 -∗ wSlot c 5 -∗ awaits c 0 1
      -∗ ((Owe c D18 ∗ zero c 0 1 ∗ wLent m c 1 ∗ zero c 0 5 ∗ wLent m c 5)
          -∗ Kt ⟨k0_pay13 a, Scalar.muli (Scalar.remsi (Scalar.addi v2 3#32) 8#32) 1#32⟩)
      -∗ WP c (withArgs (k0_part8 (F := F)) c v2 a v215) Kt) := by
  rw [k0_part8_eq_skeleton]; unfold withArgs k0_part8_skel
  simp only [Prog.lift, Prog.bind_op, Prog.bind_ret, Prog.pure_eq_ret]
  iintro #HR #Hlev HO T5 L5 S5 A1 Hk
  iapply (wp_sendW m K c _ 5 _ (dev18_eq c) (k0_off4_eq c) (k0_off4_eq c) rfl rfl) $$ HR HO T5 L5 S5; iintro ⟨HO, A5⟩
  iapply (wp_ws m K c 1 D18 (by decide) rfl) $$ HR Hlev HO A1; iintro ⟨HO, Z1, L1⟩
  iapply (wp_ws m K c 5 D18 (by decide) rfl) $$ HR Hlev HO A5; iintro ⟨HO, Z5, L5⟩
  iapply wp_done
  iapply Hk
  iframe

theorem part9_run (c : Dev nD) (v2 v240 : BitVec 32) (Kt : _ → sProp 𝕄) :
    records m K ⊢ iprop(Owe c D18 -∗ wTok c 2 -∗ wLent m c 2 -∗ wSlot c 2 -∗ wTok c 4 -∗ wLent m c 4 -∗ wSlot c 4
      -∗ ((Owe c D20 ∗ awaits c 0 2 ∗ awaits c 0 4) -∗ Kt ⟨⟩)
      -∗ WP c (withArgs (k0_part9 (F := F)) c v2 v240) Kt) := by
  rw [k0_part9_eq_skeleton]; unfold withArgs k0_part9_skel
  simp only [Prog.lift, Prog.bind_op, Prog.bind_ret, Prog.pure_eq_ret]
  iintro #HR HO T2 L2 S2 T4 L4 S4 Hk
  iapply (wp_sendW m K c _ 2 _ (dev19_eq c) (k0_off4_eq c) (k0_off4_eq c) rfl rfl) $$ HR HO T2 L2 S2; iintro ⟨HO, A2⟩
  iapply (wp_sendW m K c _ 4 _ (dev20_eq c) (k0_off4_eq c) (k0_off4_eq c) rfl rfl) $$ HR HO T4 L4 S4; iintro ⟨HO, A4⟩
  iapply wp_done
  iapply Hk
  iframe

theorem part10_run (c : Dev nD) (a) (Kt : _ → sProp 𝕄) :
    records m K ⊢ iprop(levAts L lv -∗ Owe c D20 -∗ wTok c 3 -∗ wLent m c 3 -∗ wSlot c 3 -∗ awaits c 3 0 -∗ awaits c 1 0
      -∗ ((Owe c D21 ∗ awaits c 0 3 ∗ zero c 3 0 ∗ mGot m c 0 ∗ zero c 1 0 ∗ wGot m c 0)
          -∗ Kt ⟨prevW c 0#32, k0_pay14 (mVal m (pv 0 c)), k0_pay15 (idW c) a (mVal m (pv 0 c)), k0_pay16 (idW c) a⟩)
      -∗ WP c (withArgs (k0_part10 (F := F)) c (idW c) a) Kt) := by
  rw [k0_part10_eq_skeleton]; unfold withArgs k0_part10_skel
  simp only [Prog.lift, Prog.bind_op, Prog.bind_ret, Prog.pure_eq_ret]
  iintro #HR #Hlev HO T3 L3 S3 A0 B0 Hk
  iapply (wp_sendW m K c _ 3 _ (dev21_eq c) (k0_off4_eq c) (k0_off4_eq c) rfl rfl) $$ HR HO T3 L3 S3; iintro ⟨HO, A3⟩
  iapply (wp_mr m K c 0 D21 (by decide) rfl) $$ HR Hlev HO A0; iintro ⟨HO, Y0, M0⟩
  iapply (wp_wr m K c 0 D21 (by decide) rfl) $$ HR Hlev HO B0; iintro ⟨HO, Z0, W0⟩
  iapply (wp_loadM m c (pv 0 c) fullShare (row_at c 0)) $$ M0; iintro M0
  iapply wp_done
  iapply Hk
  iframe

theorem part11_run (c : Dev nD) (v271 : BitVec 32) (a b d e h) (Kt : _ → sProp 𝕄) :
    records m K ⊢ iprop(levAts L lv -∗ Owe c D21 -∗ wGot m c 0 -∗ awaits c 3 6 -∗ awaits c 1 6
      -∗ ((Owe c D21 ∗ wGot m c 0 ∗ zero c 3 6 ∗ mGot m c 6 ∗ zero c 1 6 ∗ wGot m c 6)
          -∗ Kt ⟨k0_pay17 a b d e h (wVal m (pv 0 c)), prevW c 6#32⟩)
      -∗ WP c (withArgs (k0_part11 (F := F)) c (idW c) a b v271 d e h) Kt) := by
  rw [k0_part11_eq_skeleton]; unfold withArgs k0_part11_skel
  simp only [Prog.lift, Prog.bind_op, Prog.bind_ret, Prog.pure_eq_ret]
  iintro #HR #Hlev HO W0 A6 B6 Hk
  iapply (wp_loadW m c (pv 0 c) fullShare (slab_at c 0)) $$ W0; iintro W0
  iapply (wp_mr m K c 6 D21 (by decide) rfl) $$ HR Hlev HO A6; iintro ⟨HO, Y6, M6⟩
  iapply (wp_wr m K c 6 D21 (by decide) rfl) $$ HR Hlev HO B6; iintro ⟨HO, Z6, W6⟩
  iapply wp_done
  iapply Hk
  iframe

theorem part12_run (c : Dev nD) (v319 : BitVec 32) (a b d) (Kt : _ → sProp 𝕄) :
    ⊢ iprop(mGot m c 6 -∗ wGot m c 6
      -∗ ((mGot m c 6 ∗ wGot m c 6) -∗ Kt ⟨k0_pay18 a b d v319 (mVal m (pv 6 c)) (wVal m (pv 6 c)), prevW c 1#32⟩)
      -∗ WP c (withArgs (k0_part12 (F := F)) c (idW c) a b d v319) Kt) := by
  rw [k0_part12_eq_skeleton]; unfold withArgs k0_part12_skel
  simp only [Prog.lift, Prog.bind_op, Prog.bind_ret, Prog.pure_eq_ret]
  iintro M6 W6 Hk
  iapply (wp_loadM m c (pv 6 c) fullShare (row_at c 6)) $$ M6; iintro M6
  iapply (wp_loadW m c (pv 6 c) fullShare (slab_at c 6)) $$ W6; iintro W6
  iapply wp_done
  iapply Hk
  iframe

theorem part13_run (c : Dev nD) (v2 v367 : BitVec 32) (a b) (Kt : _ → sProp 𝕄) :
    records m K ⊢ iprop(levAts L lv -∗ Owe c D21 -∗ awaits c 3 1 -∗ awaits c 1 1
      -∗ ((Owe c D21 ∗ zero c 3 1 ∗ mGot m c 1 ∗ zero c 1 1 ∗ wGot m c 1) -∗ Kt (k0_pay19 a b v367 (mVal m (pv 1 c)) (wVal m (pv 1 c))))
      -∗ WP c (withArgs (k0_part13 (F := F)) c v2 a b v367) Kt) := by
  rw [k0_part13_eq_skeleton]; unfold withArgs k0_part13_skel
  simp only [Prog.lift, Prog.bind_op, Prog.bind_ret, Prog.pure_eq_ret]
  iintro #HR #Hlev HO A1 B1 Hk
  iapply (wp_mr m K c 1 D21 (by decide) rfl) $$ HR Hlev HO A1; iintro ⟨HO, Y1, M1⟩
  iapply (wp_wr m K c 1 D21 (by decide) rfl) $$ HR Hlev HO B1; iintro ⟨HO, Z1, W1⟩
  iapply (wp_loadM m c (pv 1 c) fullShare (row_at c 1)) $$ M1; iintro M1
  iapply (wp_loadW m c (pv 1 c) fullShare (slab_at c 1)) $$ W1; iintro W1
  iapply wp_done
  iapply Hk
  iframe

theorem part14_run (c : Dev nD) (a b d) (Kt : _ → sProp 𝕄) :
    records m K ⊢ iprop(levAts L lv -∗ Owe c D21 -∗ awaits c 3 5 -∗ awaits c 1 5
      -∗ ((Owe c D21 ∗ zero c 3 5 ∗ mGot m c 5 ∗ zero c 1 5 ∗ wGot m c 5)
          -∗ Kt ⟨k0_pay20 b d, prevW c 5#32, k0_pay21 (mVal m (pv 5 c)), k0_pay22 (idW c) a (mVal m (pv 5 c)), k0_pay23 (idW c) a⟩)
      -∗ WP c (withArgs (k0_part14 (F := F)) c (idW c) a b d) Kt) := by
  rw [k0_part14_eq_skeleton]; unfold withArgs k0_part14_skel
  simp only [Prog.lift, Prog.bind_op, Prog.bind_ret, Prog.pure_eq_ret]
  iintro #HR #Hlev HO A5 B5 Hk
  iapply (wp_mr m K c 5 D21 (by decide) rfl) $$ HR Hlev HO A5; iintro ⟨HO, Y5, M5⟩
  iapply (wp_wr m K c 5 D21 (by decide) rfl) $$ HR Hlev HO B5; iintro ⟨HO, Z5, W5⟩
  iapply (wp_loadM m c (pv 5 c) fullShare (row_at c 5)) $$ M5; iintro M5
  iapply wp_done
  iapply Hk
  iframe

theorem part15_run (c : Dev nD) (v415 : BitVec 32) (a b d e h) (Kt : _ → sProp 𝕄) :
    records m K ⊢ iprop(levAts L lv -∗ Owe c D21 -∗ wGot m c 5 -∗ awaits c 3 2 -∗ awaits c 1 2
      -∗ ((Owe c D21 ∗ wGot m c 5 ∗ zero c 3 2 ∗ mGot m c 2 ∗ zero c 1 2 ∗ wGot m c 2)
          -∗ Kt ⟨k0_pay24 a b d e h (wVal m (pv 5 c)), prevW c 2#32⟩)
      -∗ WP c (withArgs (k0_part15 (F := F)) c (idW c) a b v415 d e h) Kt) := by
  rw [k0_part15_eq_skeleton]; unfold withArgs k0_part15_skel
  simp only [Prog.lift, Prog.bind_op, Prog.bind_ret, Prog.pure_eq_ret]
  iintro #HR #Hlev HO W5 A2 B2 Hk
  iapply (wp_loadW m c (pv 5 c) fullShare (slab_at c 5)) $$ W5; iintro W5
  iapply (wp_mr m K c 2 D21 (by decide) rfl) $$ HR Hlev HO A2; iintro ⟨HO, Y2, M2⟩
  iapply (wp_wr m K c 2 D21 (by decide) rfl) $$ HR Hlev HO B2; iintro ⟨HO, Z2, W2⟩
  iapply wp_done
  iapply Hk
  iframe

theorem part16_run (c : Dev nD) (v463 : BitVec 32) (a b d) (Kt : _ → sProp 𝕄) :
    ⊢ iprop(mGot m c 2 -∗ wGot m c 2
      -∗ ((mGot m c 2 ∗ wGot m c 2) -∗ Kt ⟨k0_pay25 a b d v463 (mVal m (pv 2 c)) (wVal m (pv 2 c)), prevW c 4#32⟩)
      -∗ WP c (withArgs (k0_part16 (F := F)) c (idW c) a b d v463) Kt) := by
  rw [k0_part16_eq_skeleton]; unfold withArgs k0_part16_skel
  simp only [Prog.lift, Prog.bind_op, Prog.bind_ret, Prog.pure_eq_ret]
  iintro M2 W2 Hk
  iapply (wp_loadM m c (pv 2 c) fullShare (row_at c 2)) $$ M2; iintro M2
  iapply (wp_loadW m c (pv 2 c) fullShare (slab_at c 2)) $$ W2; iintro W2
  iapply wp_done
  iapply Hk
  iframe

theorem part17_run (c : Dev nD) (v2 v511 : BitVec 32) (a b) (Kt : _ → sProp 𝕄) :
    records m K ⊢ iprop(levAts L lv -∗ Owe c D21 -∗ awaits c 3 4 -∗ awaits c 1 4
      -∗ ((Owe c D21 ∗ zero c 3 4 ∗ mGot m c 4 ∗ zero c 1 4 ∗ wGot m c 4) -∗ Kt (k0_pay26 a b v511 (mVal m (pv 4 c)) (wVal m (pv 4 c))))
      -∗ WP c (withArgs (k0_part17 (F := F)) c v2 a b v511) Kt) := by
  rw [k0_part17_eq_skeleton]; unfold withArgs k0_part17_skel
  simp only [Prog.lift, Prog.bind_op, Prog.bind_ret, Prog.pure_eq_ret]
  iintro #HR #Hlev HO A4 B4 Hk
  iapply (wp_mr m K c 4 D21 (by decide) rfl) $$ HR Hlev HO A4; iintro ⟨HO, Y4, M4⟩
  iapply (wp_wr m K c 4 D21 (by decide) rfl) $$ HR Hlev HO B4; iintro ⟨HO, Z4, W4⟩
  iapply (wp_loadM m c (pv 4 c) fullShare (row_at c 4)) $$ M4; iintro M4
  iapply (wp_loadW m c (pv 4 c) fullShare (slab_at c 4)) $$ W4; iintro W4
  iapply wp_done
  iapply Hk
  iframe

theorem part18_run (c : Dev nD) (a b d) (Kt : _ → sProp 𝕄) :
    records m K ⊢ iprop(levAts L lv -∗ Owe c D21 -∗ awaits c 3 3 -∗ awaits c 1 3
      -∗ ((Owe c D21 ∗ zero c 3 3 ∗ mGot m c 3 ∗ zero c 1 3 ∗ wGot m c 3)
          -∗ Kt ⟨k0_pay27 b d, prevW c 3#32, k0_pay28 (mVal m (pv 3 c)), k0_pay29 (idW c) a (mVal m (pv 3 c)), k0_pay30 (idW c) a⟩)
      -∗ WP c (withArgs (k0_part18 (F := F)) c (idW c) a b d) Kt) := by
  rw [k0_part18_eq_skeleton]; unfold withArgs k0_part18_skel
  simp only [Prog.lift, Prog.bind_op, Prog.bind_ret, Prog.pure_eq_ret]
  iintro #HR #Hlev HO A3 B3 Hk
  iapply (wp_mr m K c 3 D21 (by decide) rfl) $$ HR Hlev HO A3; iintro ⟨HO, Y3, M3⟩
  iapply (wp_wr m K c 3 D21 (by decide) rfl) $$ HR Hlev HO B3; iintro ⟨HO, Z3, W3⟩
  iapply (wp_loadM m c (pv 3 c) fullShare (row_at c 3)) $$ M3; iintro M3
  iapply wp_done
  iapply Hk
  iframe

theorem part19_run (c : Dev nD) (v559 : BitVec 32) (a b d e h) (Kt : _ → sProp 𝕄) :
    records m K ⊢ iprop(levAts L lv -∗ Owe c D21 -∗ wGot m c 3 -∗ awaits c 2 0 -∗ awaits c 2 1 -∗ awaits c 2 2
      -∗ ((Owe c D21 ∗ wGot m c 3 ∗ zero c 2 0 ∗ mLent m c 0 ∗ zero c 2 1 ∗ mLent m c 1 ∗ zero c 2 2 ∗ mLent m c 2)
          -∗ Kt (k0_pay31 a b d e h (wVal m (pv 3 c))))
      -∗ WP c (withArgs (k0_part19 (F := F)) c a b v559 d e h) Kt) := by
  rw [k0_part19_eq_skeleton]; unfold withArgs k0_part19_skel
  simp only [Prog.lift, Prog.bind_op, Prog.bind_ret, Prog.pure_eq_ret]
  iintro #HR #Hlev HO W3 A0 A1 A2 Hk
  iapply (wp_loadW m c (pv 3 c) fullShare (slab_at c 3)) $$ W3; iintro W3
  iapply (wp_ms m K c 0 D21 (by decide) rfl) $$ HR Hlev HO A0; iintro ⟨HO, Z0, L0⟩
  iapply (wp_ms m K c 1 D21 (by decide) rfl) $$ HR Hlev HO A1; iintro ⟨HO, Z1, L1⟩
  iapply (wp_ms m K c 2 D21 (by decide) rfl) $$ HR Hlev HO A2; iintro ⟨HO, Z2, L2⟩
  iapply wp_done
  iapply Hk
  iframe

theorem part20_run (c : Dev nD) (Kt : _ → sProp 𝕄) :
    records m K ⊢ iprop(levAts L lv -∗ Owe c D21 -∗ awaits c 2 3 -∗ awaits c 2 4 -∗ awaits c 2 5 -∗ awaits c 2 6 -∗ awaits c 0 2 -∗ awaits c 0 4
      -∗ ((Owe c D21 ∗ zero c 2 3 ∗ mLent m c 3 ∗ zero c 2 4 ∗ mLent m c 4 ∗ zero c 2 5 ∗ mLent m c 5 ∗ zero c 2 6 ∗ mLent m c 6
            ∗ zero c 0 2 ∗ wLent m c 2 ∗ zero c 0 4 ∗ wLent m c 4) -∗ Kt ⟨⟩)
      -∗ WP c (withArgs (k0_part20 (F := F)) c) Kt) := by
  rw [k0_part20_eq_skeleton]; unfold withArgs k0_part20_skel
  simp only [Prog.lift, Prog.bind_op, Prog.bind_ret, Prog.pure_eq_ret]
  iintro #HR #Hlev HO A3 A4 A5 A6 B2 B4 Hk
  iapply (wp_ms m K c 3 D21 (by decide) rfl) $$ HR Hlev HO A3; iintro ⟨HO, Z3, L3⟩
  iapply (wp_ms m K c 4 D21 (by decide) rfl) $$ HR Hlev HO A4; iintro ⟨HO, Z4, L4⟩
  iapply (wp_ms m K c 5 D21 (by decide) rfl) $$ HR Hlev HO A5; iintro ⟨HO, Z5, L5⟩
  iapply (wp_ms m K c 6 D21 (by decide) rfl) $$ HR Hlev HO A6; iintro ⟨HO, Z6, L6⟩
  iapply (wp_ws m K c 2 D21 (by decide) rfl) $$ HR Hlev HO B2; iintro ⟨HO, Y2, W2⟩
  iapply (wp_ws m K c 4 D21 (by decide) rfl) $$ HR Hlev HO B4; iintro ⟨HO, Y4, W4⟩
  iapply wp_done
  iapply Hk
  iframe

end Cert.KernelIdeal.Exchange
end
-- ==== Proof.KernelIdealBody.lean ====
/-
The whole body on one device, and the cutting and joining of the two exchange buffers into the rows and slabs of the eight devices.
-/
module

public import proofs.«01_k».proof.Proof.KernelIdealParts

@[expose] public section

set_option maxRecDepth 16384

noncomputable section

namespace Cert.KernelIdeal.Exchange
open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (K : Dev nD × CI → ℕ)

/-! ## Rows and slabs of the whole buffers -/

theorem mem_wSet (d : Dev nD) (i : S8x2x256x512.Idx) : i ∈ wSet d ↔ (i 0).val = d.val := by
  unfold wSet
  rw [Rect.mem_set_unit]
  constructor
  · intro h; have := h 0; simp at this; omega
  · intro h a; fin_cases a
    · simp; omega
    · exact ⟨Nat.zero_le _, by simpa using (i 1).isLt⟩
    · exact ⟨Nat.zero_le _, by simpa using (i 2).isLt⟩
    · exact ⟨Nat.zero_le _, by simpa using (i 3).isLt⟩

theorem mSet_disjoint (d e : Dev nD) (h : d ≠ e) : Disjoint (mSet d) (mSet e) :=
  Finset.disjoint_left.mpr fun i hd he => h (Fin.ext (((mem_mSet d i).mp hd).symm.trans ((mem_mSet e i).mp he)))
theorem wSet_disjoint (d e : Dev nD) (h : d ≠ e) : Disjoint (wSet d) (wSet e) :=
  Finset.disjoint_left.mpr fun i hd he => h (Fin.ext (((mem_wSet d i).mp hd).symm.trans ((mem_wSet e i).mp he)))
theorem mSet_cover : Finset.univ.biUnion mSet = (Finset.univ : Finset S8x128.Idx) :=
  Finset.eq_univ_iff_forall.mpr fun i => Finset.mem_biUnion.mpr ⟨⟨(i 0).val, (i 0).isLt⟩, Finset.mem_univ _, (mem_mSet _ i).mpr rfl⟩
theorem wSet_cover : Finset.univ.biUnion wSet = (Finset.univ : Finset S8x2x256x512.Idx) :=
  Finset.eq_univ_iff_forall.mpr fun i => Finset.mem_biUnion.mpr ⟨⟨(i 0).val, (i 0).isLt⟩, Finset.mem_univ _, (mem_wSet _ i).mpr rfl⟩

/-- The devices are `c`, the seven before it; and `c`, the seven after it. -/
theorem pv_inj (c : Dev nD) : Function.Injective fun s : Fin 7 => pv s c := by
  have h : ∀ c : Dev nD, ∀ s t : Fin 7, pv s c = pv t c → s = t := by decide
  exact fun s t => h c s t
theorem nx_inj (c : Dev nD) : Function.Injective fun s : Fin 7 => nx s c := by
  have h : ∀ c : Dev nD, ∀ s t : Fin 7, nx s c = nx t c → s = t := by decide
  exact fun s t => h c s t
theorem univ_pv : ∀ c : Dev nD, (Finset.univ : Finset (Dev nD)) = insert c (Finset.univ.map ⟨fun s => pv s c, pv_inj c⟩) := by
  intro c; ext d; simp only [Finset.mem_univ, Finset.mem_insert, Finset.mem_map, true_and, Function.Embedding.coeFn_mk, true_iff]
  revert c d; decide
theorem univ_nx : ∀ c : Dev nD, (Finset.univ : Finset (Dev nD)) = insert c (Finset.univ.map ⟨fun s => nx s c, nx_inj c⟩) := by
  intro c; ext d; simp only [Finset.mem_univ, Finset.mem_insert, Finset.mem_map, true_and, Function.Embedding.coeFn_mk, true_iff]
  revert c d; decide

theorem bigSep_pv (c : Dev nD) (Φ : Dev nD → sProp 𝕄) : bigSep Finset.univ Φ = iprop(Φ c ∗ bigSep Finset.univ fun s : Fin 7 => Φ (pv s c)) := by
  rw [univ_pv c, bigSep_insert (by simp only [Finset.mem_map, Finset.mem_univ, true_and, not_exists, Function.Embedding.coeFn_mk]; revert c; decide), bigSep_map]; rfl
theorem bigSep_nx (c : Dev nD) (Φ : Dev nD → sProp 𝕄) : bigSep Finset.univ Φ = iprop(Φ c ∗ bigSep Finset.univ fun s : Fin 7 => Φ (nx s c)) := by
  rw [univ_nx c, bigSep_insert (by simp only [Finset.mem_map, Finset.mem_univ, true_and, not_exists, Function.Embedding.coeFn_mk]; revert c; decide), bigSep_map]; rfl

/-- A whole buffer is its eight rows (its eight slabs). -/
theorem mRows (c : Dev nD) (f : Buf (Elt F) ((c : Thread nD τ).loc cc0_scratch1)) :
    (((c : Thread nD τ).loc cc0_scratch1) ↦{fullShare} f : sProp 𝕄) = bigSep Finset.univ fun d => mPts c d fullShare f := by
  have h := pointsTo_biUnion (ℓ := (c : Thread nD τ).loc cc0_scratch1) (q := fullShare) (f := f) (Ix := Unit) (Name := ℕ) (U := UU) (Lvl := ℕ)
    Finset.univ mSet (fun d _ e _ => mSet_disjoint d e)
  rw [show Finset.univ.biUnion mSet = (Finset.univ : Finset (Idx ((c : Thread nD τ).loc cc0_scratch1))) from mSet_cover] at h
  exact h
theorem wRows (c : Dev nD) (f : Buf (Elt F) ((c : Thread nD τ).loc cc0_scratch0)) :
    (((c : Thread nD τ).loc cc0_scratch0) ↦{fullShare} f : sProp 𝕄) = bigSep Finset.univ fun d => wPts c d fullShare f := by
  have h := pointsTo_biUnion (ℓ := (c : Thread nD τ).loc cc0_scratch0) (q := fullShare) (f := f) (Ix := Unit) (Name := ℕ) (U := UU) (Lvl := ℕ)
    Finset.univ wSet (fun d _ e _ => wSet_disjoint d e)
  rw [show Finset.univ.biUnion wSet = (Finset.univ : Finset (Idx ((c : Thread nD τ).loc cc0_scratch0))) from wSet_cover] at h
  exact h

/-- What a device has at the start: its own row and slab, and the rows and slabs it hands to the seven others. -/
theorem slots_open (c : Dev nD) (f : Buf (Elt F) ((c : Thread nD τ).loc cc0_scratch1)) (g : Buf (Elt F) ((c : Thread nD τ).loc cc0_scratch0)) :
    iprop((((c : Thread nD τ).loc cc0_scratch1) ↦{fullShare} f) ∗ (((c : Thread nD τ).loc cc0_scratch0) ↦{fullShare} g))
      ⊢ iprop(mPts c c fullShare f ∗ wPts c c fullShare g ∗ bigSep Finset.univ fun s : Fin 7 => slots c (nx s c)) := by
  rw [mRows, wRows, bigSep_nx c, bigSep_nx c (fun d => wPts c d fullShare g)]
  iintro ⟨⟨M, Ms⟩, W, Ws⟩
  iframe M W
  ihave H : iprop((bigSep Finset.univ fun s : Fin 7 => mPts c (nx s c) fullShare f) ∗ bigSep Finset.univ fun s : Fin 7 => wPts c (nx s c) fullShare g) $$ [Ms Ws]
  · iframe
  iapply (show iprop((bigSep Finset.univ fun s : Fin 7 => mPts c (nx s c) fullShare f) ∗ bigSep Finset.univ fun s : Fin 7 => wPts c (nx s c) fullShare g)
      ⊢ (bigSep Finset.univ fun s : Fin 7 => slots c (nx s c) : sProp 𝕄) from by
    refine BIBase.Entails.trans (le_of_eq (bigSep_sep ..).symm) (bigSep_mono fun s _ => by
      show iprop(mPts c (nx s c) fullShare f ∗ wPts c (nx s c) fullShare g) ⊢ (iprop((∃ f, mPts c (nx s c) fullShare f) ∗ (∃ f, wPts c (nx s c) fullShare f)) : sProp 𝕄)
      iintro ⟨A, B⟩
      isplitl [A]
      · iexists f; iexact A
      · iexists g; iexact B))
  iexact H

/-- At the end both buffers are whole, holding every device's row and slab. -/
theorem mWhole (c : Dev nD) : iprop(mPts c c fullShare (mAll m) ∗ mGot m c 0 ∗ mGot m c 1 ∗ mGot m c 2 ∗ mGot m c 3 ∗ mGot m c 4 ∗ mGot m c 5 ∗ mGot m c 6)
    ⊢ (((c : Thread nD τ).loc cc0_scratch1) ↦{fullShare} mAll m : sProp 𝕄) := by
  rw [mRows, bigSep_pv c, bigSep_fin7]
theorem wWhole (c : Dev nD) : iprop(wPts c c fullShare (wAll m) ∗ wGot m c 0 ∗ wGot m c 1 ∗ wGot m c 2 ∗ wGot m c 3 ∗ wGot m c 4 ∗ wGot m c 5 ∗ wGot m c 6)
    ⊢ (((c : Thread nD τ).loc cc0_scratch0) ↦{fullShare} wAll m : sProp 𝕄) := by
  rw [wRows, bigSep_pv c, bigSep_fin7]

/-! ## The body -/

/-- What the body of device `c` starts from, besides what it owes: its tokens, its positions and credits, its buffers. -/
def entry (c : Dev nD) : sProp 𝕄 :=
  iprop((bigSep Finset.univ fun s : Fin 7 => sigTok c s) ∗ (bigSep Finset.univ fun s : Fin 7 => mTok c s) ∗ (bigSep Finset.univ fun s : Fin 7 => wTok c s)
    ∗ atPos ER (barCell c) 0 ∅ 0 ∗ cred (tallyAt (barCell c) () 7)
    ∗ (bigSep Finset.univ fun s : Fin 7 => awaits c 3 s) ∗ (bigSep Finset.univ fun s : Fin 7 => awaits c 1 s)
    ∗ (∃ f, stgPts c cc0_scratch1 f) ∗ (∃ f, stgPts c cc0_scratch0 f)
    ∗ stgPts c cc0_stg0_0 (xstg m c) ∗ stgPts c cc0_stg1_0 (istg m c) ∗ stgPts c cc0_stg2_0 (estg m c) ∗ (∃ f, stgPts c cc0_stg3_0 f))

/-- What it ends with: every semaphore at zero, both exchange buffers whole, the result. -/
def exit (c : Dev nD) : sProp 𝕄 :=
  iprop(semVal (barCell c) 0 ∗ (bigSep Finset.univ fun s : Fin 7 => zero c 0 s) ∗ (bigSep Finset.univ fun s : Fin 7 => zero c 1 s)
    ∗ (bigSep Finset.univ fun s : Fin 7 => zero c 2 s) ∗ (bigSep Finset.univ fun s : Fin 7 => zero c 3 s)
    ∗ stgPts c cc0_scratch1 (mAll m) ∗ stgPts c cc0_scratch0 (wAll m)
    ∗ stgPts c cc0_stg0_0 (xstg m c) ∗ stgPts c cc0_stg1_0 (istg m c) ∗ stgPts c cc0_stg2_0 (estg m c) ∗ stgPts c cc0_stg3_0 (outAt m c))

/-- The slots the seven other devices hand over, one by one. -/
theorem slots_got (c : Dev nD) : (bigSep Finset.univ fun s : Fin 7 => slots (nx s c) c : sProp 𝕄)
    ⊢ iprop((mSlot c 0 ∗ wSlot c 0) ∗ (mSlot c 1 ∗ wSlot c 1) ∗ (mSlot c 2 ∗ wSlot c 2) ∗ (mSlot c 3 ∗ wSlot c 3)
      ∗ (mSlot c 4 ∗ wSlot c 4) ∗ (mSlot c 5 ∗ wSlot c 5) ∗ (mSlot c 6 ∗ wSlot c 6)) := le_of_eq (bigSep_fin7 _)

/-- The slots a device hands over, one by one, beside its own row and slab. -/
theorem slots_open' (c : Dev nD) (f : Buf (Elt F) ((c : Thread nD τ).loc cc0_scratch1)) (g : Buf (Elt F) ((c : Thread nD τ).loc cc0_scratch0)) :
    iprop((((c : Thread nD τ).loc cc0_scratch1) ↦{fullShare} f) ∗ (((c : Thread nD τ).loc cc0_scratch0) ↦{fullShare} g))
      ⊢ iprop(mPts c c fullShare f ∗ wPts c c fullShare g ∗ slots c (nx 0 c) ∗ slots c (nx 1 c) ∗ slots c (nx 2 c) ∗ slots c (nx 3 c)
        ∗ slots c (nx 4 c) ∗ slots c (nx 5 c) ∗ slots c (nx 6 c)) := by
  rw [← bigSep_fin7 fun s => slots c (nx s c)]
  exact slots_open c f g

set_option maxHeartbeats 4000000 in
/-- The body: from `entry` and the payments still owed, to `exit` and nothing owed. -/
theorem body_run (c : Dev nD) (Kt : PUnit → sProp 𝕄) :
    records m K ⊢ iprop(levAts L lv -∗ Owe c D0 -∗ entry m c -∗ ((Owe c D21 ∗ exit m c) -∗ Kt ⟨⟩)
      -∗ WP c (withArgs (cc0_body (F := F))) Kt) := by
  rw [cc0_body_eq_skeleton]; unfold withArgs cc0_body_skel
  rw [k0_part21_eq_skeleton]; unfold k0_part21_skel
  simp only [Prog.lift, Prog.bind_op, Prog.bind_ret, Prog.pure_eq_ret, wp_bind]
  unfold entry exit
  simp only [bigSep_fin7]
  iintro #HR #Hlev HO ⟨⟨T0, T1, T2, T3, T4, T5, T6⟩, ⟨P0, P1, P2, P3, P4, P5, P6⟩, ⟨V0, V1, V2, V3, V4, V5, V6⟩, Hat, Hc,
    ⟨M0, M1, M2, M3, M4, M5, M6⟩, ⟨W0, W1, W2, W3, W4, W5, W6⟩, ⟨%fm, Hm⟩, ⟨%fw, Hw⟩, Hx, Hi, He, ⟨%fo, Hout⟩⟩ Hk
  ihave Hs := (slots_open' c fm fw) $$ [Hm Hw]
  · iframe
  icases Hs with ⟨Hm, Hw, S0, S1, S2, S3, S4, S5, S6⟩
  iapply (part1_run m K c _) $$ HR HO T0 S0 T1 S1 T2 S2 T3 S3 T4 S4; iintro HO; try dsimp only
  iapply (part2_run m K c _ _ _ _) $$ HR Hlev HO T5 S5 T6 S6 Hat Hc Hi He; iintro ⟨HO, Zb, Hs, Hi, He⟩; try dsimp only
  ihave Hs := (slots_got c) $$ Hs
  icases Hs with ⟨⟨A0, B0⟩, ⟨A1, B1⟩, ⟨A2, B2⟩, ⟨A3, B3⟩, ⟨A4, B4⟩, ⟨A5, B5⟩, ⟨A6, B6⟩⟩
  iapply (part3_run m K c _ _ fm) $$ HR HO Hm P0 A0 P1 A1; iintro ⟨HO, X0, X1, Hm, L2, L3, L4, L5, L6⟩; try dsimp only
  iapply (part4_run m K c _ _) $$ HR HO P2 L2 A2 P3 L3 A3 P4 L4 A4 P5 L5 A5; iintro ⟨HO, X2, X3, X4, X5⟩; try dsimp only
  iapply (part5_run m K c _ _ _ fw) $$ HR HO P6 L6 A6 Hw V0 B0; iintro ⟨HO, X6, Y0, Hw, L1, L2, L3, L4, L5, L6⟩; try dsimp only
  iapply (part6_run m K c _ _ _ _) $$ HR HO V6 L6 B6 Hx Hw; iintro ⟨HO, Y6, Hx, Hw⟩; try dsimp only
  iapply (part7_run m K c _ _ _ _ _) $$ HR Hlev HO Y0 Y6 V1 L1 B1; iintro ⟨HO, Z00, L0, Z06, L6, Y1⟩; try dsimp only
  iapply (part8_run m K c _ _ _ _) $$ HR Hlev HO V5 L5 B5 Y1; iintro ⟨HO, Z01, L1, Z05, L5⟩; try dsimp only
  iapply (part9_run m K c _ _ _) $$ HR HO V2 L2 B2 V4 L4 B4; iintro ⟨HO, Y2, Y4⟩; try dsimp only
  iapply (part10_run m K c _ _) $$ HR Hlev HO V3 L3 B3 M0 W0; iintro ⟨HO, Y3, Z30, M0, Z10, W0⟩; try dsimp only
  iapply (part11_run m K c _ _ _ _ _ _ _) $$ HR Hlev HO W0 M6 W6; iintro ⟨HO, W0, Z36, M6, Z16, W6⟩; try dsimp only
  iapply (part12_run m c _ _ _ _ _) $$ M6 W6; iintro ⟨M6, W6⟩; try dsimp only
  iapply (part13_run m K c _ _ _ _ _) $$ HR Hlev HO M1 W1; iintro ⟨HO, Z31, M1, Z11, W1⟩; try dsimp only
  iapply (part14_run m K c _ _ _ _) $$ HR Hlev HO M5 W5; iintro ⟨HO, Z35, M5, Z15, W5⟩; try dsimp only
  iapply (part15_run m K c _ _ _ _ _ _ _) $$ HR Hlev HO W5 M2 W2; iintro ⟨HO, W5, Z32, M2, Z12, W2⟩; try dsimp only
  iapply (part16_run m c _ _ _ _ _) $$ M2 W2; iintro ⟨M2, W2⟩; try dsimp only
  iapply (part17_run m K c _ _ _ _ _) $$ HR Hlev HO M4 W4; iintro ⟨HO, Z34, M4, Z14, W4⟩; try dsimp only
  iapply (part18_run m K c _ _ _ _) $$ HR Hlev HO M3 W3; iintro ⟨HO, Z33, M3, Z13, W3⟩; try dsimp only
  iapply (part19_run m K c _ _ _ _ _ _ _) $$ HR Hlev HO W3 X0 X1 X2; iintro ⟨HO, W3, Z20, N0, Z21, N1, Z22, N2⟩; try dsimp only
  iapply (part20_run m K c _) $$ HR Hlev HO X3 X4 X5 X6 Y2 Y4
  iintro ⟨HO, Z23, N3, Z24, N4, Z25, N5, Z26, N6, Z02, L2, Z04, L4⟩; try dsimp only
  iapply (wp_ws m K c 3 D21 (by decide) rfl) $$ HR Hlev HO Y3; iintro ⟨HO, Z03, L3⟩
  ihave Hm := (mUnlend m c) $$ [Hm N0 N1 N2 N3 N4 N5 N6]
  · iframe
  ihave Hm := (mWhole m c) $$ [Hm M0 M1 M2 M3 M4 M5 M6]
  · iframe
  ihave Hw := (wUnlend m c) $$ [Hw L0 L1 L2 L3 L4 L5 L6]
  · iframe
  ihave Hw := (wWhole m c) $$ [Hw W0 W1 W2 W3 W4 W5 W6]
  · iframe
  iapply (wp_load 𝒱₀ (c : Thread nD τ) none Set.univ (m := mM) (Finset.subset_univ _)) $$ Hm; iintro Hm
  rw [show mM.view.readAt (Elt F) (Rect.unit (s := S8x128) ![0, 0] S8x128.size inb_S8x128_S8x128_0_0).toLoadRect (mAll m) = mAll m from
    Memref.readAt_unit_zero (Elt F) cc0_scratch1 hz2 _ _]
  iapply wp_done
  iapply (wp_load 𝒱₀ (c : Thread nD τ) none Set.univ (m := oM) (Finset.subset_univ _)) $$ Hout; iintro Hout
  iapply (wp_store 𝒱₀ (c : Thread nD τ) none Set.univ (m := oM) (r := Rect.unit (s := S512x512) ![0, 0] S512x512.size inb_S512x512_S512x512_0_0)
    (Mk := Finset.univ) (Finset.subset_univ _)) $$ Hout; iintro Hout
  rw [show ∀ f w : (cc0_stg3_0 : Ref sig .tc).ty.Contents (Elt F), ((oM : Memref sig .tc .vmem S512x512 .f32).access
      (Rect.unit (s := S512x512) ![0, 0] S512x512.size inb_S512x512_S512x512_0_0) : View sig .tc _ _ _).write (Elt F) f w Finset.univ = w from
    fun f w => Memref.write_access_unit_zero_univ (Elt F) cc0_stg3_0 hz2 _ f w]
  iapply wp_done
  iapply Hk
  iframe HO Zb Z00 Z01 Z02 Z03 Z04 Z05 Z06 Z10 Z11 Z12 Z13 Z14 Z15 Z16 Z20 Z21 Z22 Z23 Z24 Z25 Z26 Z30 Z31 Z32 Z33 Z34 Z35 Z36 Hm Hw Hx Hi He
  iexact Hout

end Cert.KernelIdeal.Exchange
-- ==== Proof.KernelIdealRun.lean ====
/-
The launch: what every device starts from, the exchange's cells opened for all devices at once, the credits of what the
others will pay, and the run of the whole program: it ends with the computed result on every device, the arguments
unchanged and every semaphore at zero.
-/
module

public import proofs.«01_k».proof.Proof.KernelIdealBody
public import Idealize.ShloMosaic.Lib.Pipeline.CollectiveSegs
public import Idealize.ShloMosaic.Lib.Pipeline.Value
public import Idealize.ShloMosaic.Lib.StableHlo.RunHlo

@[expose] public section

set_option maxRecDepth 16384

noncomputable section

namespace Cert.KernelIdeal.Exchange

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-- The initial state. -/
def s₀ : MemSt nD τ sig (Elt F) := ⟨m, fun _ => 0, ρ⟩

theorem cfg0_N : cfg0.N = 1 := by decide
def t₀ : Fin cfg0.N := ⟨0, by rw [cfg0_N]; decide⟩
theorem fin_N (t : Fin cfg0.N) : t = t₀ := by
  obtain ⟨t, ht⟩ := t; have := cfg0_N; exact Fin.ext (by simp only [t₀]; omega)

/-! ## Conjunctions over the cells -/

theorem bigSep_cells (Φ : CI → sProp 𝕄) : bigSep Finset.univ Φ = iprop(Φ none ∗ bigSep Finset.univ fun k : Fin 4 => bigSep Finset.univ fun s : Fin 7 => Φ (some (k, s))) := by
  rw [show (Finset.univ : Finset CI) = insert none (Finset.univ.map Function.Embedding.some) from by
      ext x; cases x <;> simp, bigSep_insert (by simp), bigSep_map, ← bigSep_univ_prod (fun ks : Fin 4 × Fin 7 => Φ (some ks))]
  rfl

theorem bigSep_fin4 (Φ : Fin 4 → sProp 𝕄) : bigSep Finset.univ Φ = iprop(Φ 0 ∗ Φ 1 ∗ Φ 2 ∗ Φ 3) :=
  BI.bigSep_univ_eq_bigSepL [0, 1, 2, 3] (by decide) (by decide) Φ

/-! ## What the body is handed -/

/-- The tokens a device spends. -/
def payToks (c : Dev nD) : sProp 𝕄 :=
  iprop((bigSep Finset.univ fun s : Fin 7 => sigTok c s)
    ∗ (bigSep Finset.univ fun s : Fin 7 => dutyTok ER (xCell c 0 s) 0 0) ∗ (bigSep Finset.univ fun s : Fin 7 => dutyTok ER (xCell (nx s c) 1 s) 0 0)
    ∗ (bigSep Finset.univ fun s : Fin 7 => dutyTok ER (xCell c 2 s) 0 0) ∗ (bigSep Finset.univ fun s : Fin 7 => dutyTok ER (xCell (nx s c) 3 s) 0 0))

/-- Its place at each of its cells, and the tokens it spends. -/
def linear (c : Dev nD) : sProp 𝕄 :=
  iprop((bigSep Finset.univ fun k : CI => atPos ER (kcell (c, k)) 0 ∅ 0) ∗ payToks c)

/-- The credits of what the others pay to it. -/
def credits (c : Dev nD) : sProp 𝕄 :=
  iprop(cred (tallyAt (barCell c) () 7) ∗ (bigSep Finset.univ fun s : Fin 7 => cred (tallyAt (xCell c 1 s) () (NX 1)))
    ∗ (bigSep Finset.univ fun s : Fin 7 => cred (tallyAt (xCell c 3 s) () (NX 3))))

def start (c : Dev nD) : sProp 𝕄 := iprop((∃ K, records m K ∗ linear c) ∗ credits c ∗ levAts L lv)

def Φ₀ (c : Dev nD) : sProp 𝕄 := iprop(start m c ∗ (∃ f, stgPts c cc0_scratch0 f) ∗ (∃ f, stgPts c cc0_scratch1 f))
/-- Every semaphore at zero, both exchange buffers whole. -/
def Φ₁ (c : Dev nD) : sProp 𝕄 :=
  iprop(semVal (barCell c) 0 ∗ (bigSep Finset.univ fun k : Fin 4 => bigSep Finset.univ fun s : Fin 7 => semVal (xCell c k s) 0)
    ∗ stgPts c cc0_scratch0 (wAll m) ∗ stgPts c cc0_scratch1 (mAll m))

def dats (_ : Fin 1) (c : Dev nD) : Dat τ (Elt F) Unit ℕ UU ℕ cfg0 c where
  A w := (s₀ m ρ).mem ((cfg0.win w).arr.view.loc (c : Thread nD τ))
  after w _ := match w with
    | ⟨0, _⟩ => xstg m c
    | ⟨1, _⟩ => istg m c
    | ⟨2, _⟩ => estg m c
    | ⟨3, _⟩ => outAt m c
  Φ t := match t with
    | ⟨0, _⟩ => Φ₀ m c
    | ⟨_ + 1, _⟩ => Φ₁ m c
  q _ := fullShare
  owed t := match t with
    | ⟨0, _⟩ => owing c D0
    | ⟨_ + 1, _⟩ => 0

theorem owns_whole_eq (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) (((c : Dev nD) : Thread nD τ).loc b), ⌜f = X⌝ ∗ (((c : Thread nD τ).loc b) ↦{fullShare} f)) := by
  unfold owns; simp only [Memref.view_whole, View.read_whole, View.set_whole]

/-! ## The body under the launch -/

/-- A device's start, sorted into what its body takes. -/
theorem entry_intro (c : Dev nD) :
    iprop(linear c ∗ credits c ∗ (∃ f, stgPts c cc0_scratch0 f) ∗ (∃ f, stgPts c cc0_scratch1 f)
        ∗ stgPts c cc0_stg0_0 (xstg m c) ∗ stgPts c cc0_stg1_0 (istg m c) ∗ stgPts c cc0_stg2_0 (estg m c) ∗ (∃ f, stgPts c cc0_stg3_0 f))
      ⊢ entry m c := by
  unfold linear credits payToks entry mTok wTok awaits
  rw [bigSep_cells, bigSep_fin4]
  simp only [bigSep_sep']
  iintro ⟨⟨⟨Pb, P0, P1, P2, P3⟩, T, T0, T1, T2, T3⟩, ⟨Cb, C1, C3⟩, Hw, Hm, Hx, Hi, He, Ho⟩
  iframe

theorem exit_elim (c : Dev nD) : exit m c ⊢ iprop(Φ₁ m c ∗ stgPts c cc0_stg0_0 (xstg m c) ∗ stgPts c cc0_stg1_0 (istg m c) ∗ stgPts c cc0_stg2_0 (estg m c)
    ∗ stgPts c cc0_stg3_0 (outAt m c)) := by
  unfold exit Φ₁
  rw [bigSep_fin4]
  iintro ⟨Zb, Z0, Z1, Z2, Z3, Hm, Hw, Hx, Hi, He, Ho⟩
  iframe

abbrev stg (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

def bodyPre (c : Dev nD) : sProp 𝕄 :=
  iprop(Φ₀ m c ∗ (dats m ρ 0 c).owesAt () t₀.castSucc
    ∗ (∃ d, stg c cc0_stg0_0 ((dats m ρ 0 c).before (0 : Fin 4) t₀ d)) ∗ (∃ d, stg c cc0_stg1_0 ((dats m ρ 0 c).before (1 : Fin 4) t₀ d))
    ∗ (∃ d, stg c cc0_stg2_0 ((dats m ρ 0 c).before (2 : Fin 4) t₀ d)) ∗ (∃ d, stg c cc0_stg3_0 ((dats m ρ 0 c).before (3 : Fin 4) t₀ d)))
def bodyPost (c : Dev nD) : sProp 𝕄 :=
  iprop(Φ₁ m c ∗ (dats m ρ 0 c).owesAt () t₀.succ ∗ stg c cc0_stg0_0 (xstg m c) ∗ stg c cc0_stg1_0 (istg m c) ∗ stg c cc0_stg2_0 (estg m c)
    ∗ stg c cc0_stg3_0 (outAt m c))

/-- The one grid point's obligation. -/
theorem body_obligation (c : Dev nD) : BodyObligation (dats (F := F) m ρ 0 c) (defs₀ (F := F)) 𝒱₀ () Set.univ := fun t => by
  rw [fin_N t, bigSep_W0, bigSep_W0]
  simp only [owns_whole_eq]
  show bodyPre m ρ c ⊢ WP c (withArgs (cc0_body (F := F))) (fun _ => bodyPost m ρ c)
  unfold bodyPre Φ₀ start
  iintro ⟨⟨⟨⟨%K, #HR, Hl⟩, Hc, #Hlev⟩, Hw, Hm⟩, Ho, ⟨%d0, %g0, %h0, Hx⟩, ⟨%d1, %g1, %h1, Hi⟩, ⟨%d2, %g2, %h2, He⟩, ⟨%d3, %g3, %h3, Hout⟩⟩
  have e0 : g0 = xstg m c := by rw [h0]; unfold Dat.before; rw [if_pos (fetch0_0 t₀)]; rfl
  have e1 : g1 = istg m c := by rw [h1]; unfold Dat.before; rw [if_pos (fetch0_1 t₀)]; rfl
  have e2 : g2 = estg m c := by rw [h2]; unfold Dat.before; rw [if_pos (fetch0_2 t₀)]; rfl
  subst e0; subst e1; subst e2
  unfold Dat.owesAt Pipeline.owesWithin
  icases Ho with ⟨%W, %hW, Ho⟩
  iapply (body_run m K c _) $$ HR Hlev [Ho] [Hl Hc Hw Hm Hx Hi He Hout]
  · unfold Owe; iexists W; iexact Ho
  · iapply (entry_intro m c)
    iframe
    iexists g3; iexact Hout
  iintro ⟨HO, HE⟩
  ihave HE := (exit_elim m c) $$ HE
  icases HE with ⟨HΦ, Hx, Hi, He, Hout⟩
  unfold bodyPost Dat.owesAt Pipeline.owesWithin Owe
  icases HO with ⟨%W', HO⟩
  iframe HΦ
  isplitl [HO]
  · iexists W'
    isplitr; · ipureintro; exact fun _ _ => Or.inl trivial
    iexact HO
  isplitl [Hx]; · iexists _; iframe Hx; ipureintro; rfl
  isplitl [Hi]; · iexists _; iframe Hi; ipureintro; rfl
  isplitl [He]; · iexists _; iframe He; ipureintro; rfl
  iexists _; iframe Hout; ipureintro; rfl

/-! ## The launch's cells and tokens -/

theorem ownSemFacts : Pipeline.OwnSemFacts cfg0.spec osem := by decide

theorem share_eq (c : Dev nD) (w : Fin cfg0.W) : (dats m ρ 0 c).share w = fullShare := by unfold Dat.share; split <;> rfl

theorem csem_injective : Function.Injective csem := by decide

theorem kcell_injective : Function.Injective (kcell : Dev nD × CI → GSem nD τ sig) := by
  rintro ⟨c, k⟩ ⟨c', k'⟩ h
  have h1 : c = c' := congrArg (fun g : GSem nD τ sig => g.1.1) h
  subst h1
  have h2 : k = k' := csem_injective (congrArg Prod.snd h)
  rw [h2]

/-- All cells of the exchange. -/
def exCells : Finset (GSem nD τ sig) := Finset.univ.map ⟨kcell, kcell_injective⟩

/-- A token of a cell of one device: one of its barrier's seven, or the only one of a transfer semaphore. -/
abbrev TI : Type := Fin 7 ⊕ (Fin 4 × Fin 7)
abbrev tokOf (cj : Dev nD × TI) : GSem nD τ sig × ℕ × Fin 7 := match cj.2 with
  | .inl d => (barCell cj.1, 0, d)
  | .inr ks => (xCell cj.1 ks.1 ks.2, 0, 0)
theorem tokOf_injective : Function.Injective (tokOf : Dev nD × TI → GSem nD τ sig × ℕ × Fin 7) := by
  rintro ⟨c, j⟩ ⟨c', j'⟩ h
  have h1 : c = c' := by
    have := congrArg (fun x : GSem nD τ sig × ℕ × Fin 7 => x.1.1.1) h
    rcases j with d | ks <;> rcases j' with d' | ks' <;> exact this
  subst h1
  rcases j with d | ks <;> rcases j' with d' | ks'
  · have h2 : d = d' := congrArg (fun x : GSem nD τ sig × ℕ × Fin 7 => x.2.2) h
    rw [h2]
  · have h2 : csem none = csem (some ks') := congrArg (fun x : GSem nD τ sig × ℕ × Fin 7 => x.1.2) h
    exact absurd (csem_injective h2) (by simp)
  · have h2 : csem (some ks) = csem none := congrArg (fun x : GSem nD τ sig × ℕ × Fin 7 => x.1.2) h
    exact absurd (csem_injective h2) (by simp)
  · have h2 : csem (some ks) = csem (some ks') := congrArg (fun x : GSem nD τ sig × ℕ × Fin 7 => x.1.2) h
    rw [Option.some.inj (csem_injective h2)]
def exToks : Finset (GSem nD τ sig × ℕ × Fin 7) := Finset.univ.map ⟨tokOf, tokOf_injective⟩

def u₀ : UU := (initOf (Pipeline.cells cfgs cellOf_inj) (Pipeline.launchToks cfgs cellOf_inj), initOf exCells exToks)

/-- The tokens of device `c`'s own cells. -/
def toks (c : Dev nD) : sProp 𝕄 :=
  iprop((bigSep Finset.univ fun d : Fin 7 => dutyTok ER (barCell c) 0 d)
    ∗ (bigSep Finset.univ fun k : Fin 4 => bigSep Finset.univ fun s : Fin 7 => dutyTok ER (xCell c k s) 0 0))

/-- What a device is dealt when the cells are made: the state of its cells, its place at them, their tokens. -/
def G (c : Dev nD) : sProp 𝕄 :=
  iprop((bigSep Finset.univ fun k : CI => roundState ER (sched m) (kcell (c, k)) 0)
    ∗ (bigSep Finset.univ fun k : CI => atPos ER (kcell (c, k)) 0 ∅ 0) ∗ (bigSep Finset.univ fun k : CI => reached ER (kcell (c, k)) 0) ∗ toks c)

/-- What it has once all cells are open: the records, its places, the tokens it spends. -/
def G' (c : Dev nD) : sProp 𝕄 := iprop(∃ K, records m K ∗ linear c)

theorem fund_ex : BI.own (ER (initOf exCells exToks)) ⊢ (|==> bigSep Finset.univ (G m) : sProp 𝕄) := by
  have hX (Φ : GSem nD τ sig → sProp 𝕄) : bigSep exCells Φ = bigSep Finset.univ fun c : Dev nD => bigSep Finset.univ fun k : CI => Φ (kcell (c, k)) := by
    unfold exCells; rw [bigSep_map, bigSep_univ_prod]; rfl
  have hT : bigSep exToks (fun x => (dutyTok ER x.1 x.2.1 x.2.2 : sProp 𝕄)) = bigSep Finset.univ fun c : Dev nD => toks c := by
    unfold exToks; rw [bigSep_map, bigSep_univ_prod]
    exact bigSep_congr fun c _ => by unfold toks; rw [bigSep_univ_sum, ← bigSep_univ_prod (fun ks : Fin 4 × Fin 7 => dutyTok ER (xCell c ks.1 ks.2) 0 0)]; rfl
  iintro HX
  imod (Rounds.fund ER (sched m) exCells exToks) $$ HX with ⟨Hst, Hr, Hat, Htok⟩
  imodintro
  ihave Hst := (Entails.of_eq (hX fun g => roundState ER (sched m) g 0)) $$ Hst
  ihave Hat := (Entails.of_eq (hX fun g => atPos ER g 0 ∅ 0)) $$ Hat
  ihave Hr := (Entails.of_eq (hX fun g => reached ER g 0)) $$ Hr
  ihave Htok := (Entails.of_eq hT) $$ Htok
  unfold G; simp only [bigSep_sep']
  iframe

theorem unscopedSems0_eq (c : Dev nD) : (unscopedSems0 c : sProp 𝕄) = semVal (barCell c) 0 := by
  unfold unscopedSems0; rw [bigSep_eq_bigSepL_of_eq [SemLoc.reg barS] (by decide) (by decide)]; rfl

theorem ownSems0_eq (c : Dev nD) : (Pipeline.ownSems0 (Ix := Unit) (Name := ℕ) (U := UU) (Lvl := ℕ) (Val := Elt F) (τ := τ) osem c : sProp 𝕄)
    = bigSep Finset.univ fun k : Fin 4 => bigSep Finset.univ fun s : Fin 7 => semVal (xCell c k s) 0 := by
  unfold Pipeline.ownSems0; rw [bigSep_univ_prod]

theorem sems0_eq (c : Dev nD) :
    iprop(Pipeline.ownSems0 (Ix := Unit) (Name := ℕ) (U := UU) (Lvl := ℕ) (Val := Elt F) (τ := τ) osem c ∗ unscopedSems0 c)
      ⊢ (bigSep Finset.univ fun k : CI => semVal (kcell (c, k)) 0 : sProp 𝕄) := by
  rw [ownSems0_eq, unscopedSems0_eq, bigSep_cells]
  iintro ⟨HO, HB⟩
  iframe

/-- One device's cells opened: each semaphore at zero and its cell's state make the cell's invariant. -/
theorem open_cells (c : Dev nD) :
    iprop(Pipeline.ownSems0 (Ix := Unit) (Name := ℕ) (U := UU) (Lvl := ℕ) (Val := Elt F) (τ := τ) osem c ∗ unscopedSems0 c ∗ G m c)
      ⊢ |={Set.univ}=> iprop((bigSep Finset.univ fun k : CI => iprop(∃ κ : ℕ, cellInv ER (sched m) κ (kcell (c, k))))
          ∗ (bigSep Finset.univ fun k : CI => atPos ER (kcell (c, k)) 0 ∅ 0) ∗ (bigSep Finset.univ fun k : CI => reached ER (kcell (c, k)) 0) ∗ toks c) := by
  unfold G
  iintro ⟨Hos, Hus, Hst, Hat, Hr, Htok⟩
  ihave Hv := (sems0_eq (F := F) c) $$ [Hos Hus]
  · iframe
  imod (show iprop((bigSep Finset.univ fun k : CI => semVal (kcell (c, k)) 0) ∗ bigSep Finset.univ fun k : CI => roundState ER (sched m) (kcell (c, k)) 0)
      ⊢ (|={Set.univ}=> bigSep Finset.univ fun k => iprop(∃ κ : ℕ, cellInv ER (sched m) κ (kcell (c, k))) : sProp 𝕄) from by
        rw [← bigSep_sep']
        exact (bigSep_mono fun k _ => (Rounds.body_intro ER (sched m) (kcell (c, k))).trans inv_alloc).trans (bigSep_fupd _ _)) $$ [Hv Hst] with Hinv
  · iframe
  imodintro
  iframe

/-- A family over devices and places, moved `s + 1` devices on at place `s`. -/
theorem bigSep_moved (Φ : Dev nD → Fin 7 → sProp 𝕄) :
    (bigSep Finset.univ fun c : Dev nD => bigSep Finset.univ fun s : Fin 7 => Φ c s)
      ⊢ bigSep Finset.univ fun c : Dev nD => bigSep Finset.univ fun s : Fin 7 => Φ (nx s c) s := by
  rw [← bigSep_univ_prod (fun cs : Dev nD × Fin 7 => Φ cs.1 cs.2), ← bigSep_univ_prod (fun cs : Dev nD × Fin 7 => Φ (nx cs.2 cs.1) cs.2)]
  exact Entails.of_eq (bigSep_univ_equiv
    (⟨fun cs => (nx cs.2 cs.1, cs.2), fun cs => (pv cs.2 cs.1, cs.2), fun cs => by simp only [pv_nx], fun cs => by simp only [nx_pv]⟩ : Dev nD × Fin 7 ≃ Dev nD × Fin 7)
    (fun cs : Dev nD × Fin 7 => Φ cs.1 cs.2))

/-- The tokens handed to those who spend them. -/
theorem toks_around : (bigSep Finset.univ fun c : Dev nD => (toks c : sProp 𝕄)) ⊢ bigSep Finset.univ fun c : Dev nD => payToks c := by
  unfold toks payToks sigTok
  simp only [bigSep_fin4, bigSep_sep']
  iintro ⟨Hb, H0, H1, H2, H3⟩
  ihave Hb := (show (bigSep Finset.univ fun c : Dev nD => bigSep Finset.univ fun d : Fin 7 => dutyTok ER (barCell c) 0 d : sProp 𝕄)
      ⊢ bigSep Finset.univ fun c : Dev nD => bigSep Finset.univ fun s : Fin 7 => dutyTok ER (barCell (nx s c)) 0 s.rev from
    (bigSep_mono fun c _ => Entails.of_eq (bigSep_univ_equiv Fin.revPerm (fun d : Fin 7 => (dutyTok ER (barCell c) 0 d : sProp 𝕄)))).trans
      (bigSep_moved fun c s => dutyTok ER (barCell c) 0 s.rev)) $$ Hb
  ihave H1 := (bigSep_moved fun c s => (dutyTok ER (xCell c 1 s) 0 0 : sProp 𝕄)) $$ H1
  ihave H3 := (bigSep_moved fun c s => (dutyTok ER (xCell c 3 s) 0 0 : sProp 𝕄)) $$ H3
  iframe

theorem bigSep_with_persistent {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

theorem regroup :
    (bigSep Finset.univ fun c : Dev nD => iprop((bigSep Finset.univ fun k : CI => iprop(∃ κ : ℕ, cellInv ER (sched m) κ (kcell (c, k))))
          ∗ (bigSep Finset.univ fun k : CI => atPos ER (kcell (c, k)) 0 ∅ 0) ∗ (bigSep Finset.univ fun k : CI => reached ER (kcell (c, k)) 0) ∗ toks c) : sProp 𝕄)
      ⊢ bigSep Finset.univ (G' m) := by
  rw [bigSep_sep', bigSep_sep', bigSep_sep', ← bigSep_univ_prod (fun ck : Dev nD × CI => iprop(∃ κ : ℕ, cellInv ER (sched m) κ (kcell ck))),
    ← bigSep_univ_prod (fun ck : Dev nD × CI => (reached ER (kcell ck) 0 : sProp 𝕄))]
  iintro ⟨HI, Hat, #HR, Htok⟩
  ihave HK := (BI.bigSep_exists_pi Finset.univ (fun (ck : Dev nD × CI) (κ : ℕ) => (cellInv ER (sched m) κ (kcell ck) : sProp 𝕄))) $$ HI
  icases HK with ⟨%K, #HI⟩
  ihave Htk := (toks_around (F := F)) $$ Htok
  iapply (bigSep_with_persistent (R := records m K) (Φ := fun c => linear c) fun c _ => show iprop(records m K ∗ linear c) ⊢ G' m c from by
    unfold G'; iintro ⟨#H1, H2⟩; iexists K; iframe H2; iexact H1)
  isplitr
  · unfold records; isplitl; · iexact HI
    iexact HR
  · unfold linear
    rw [bigSep_sep']
    isplitl [Hat]; · iexact Hat
    iexact Htk

/-- All devices' cells opened at once. -/
theorem glob : (bigSep Finset.univ fun c => iprop(Pipeline.ownSems0 (Ix := Unit) (Name := ℕ) (U := UU) (Lvl := ℕ) (Val := Elt F) (τ := τ) osem c ∗ unscopedSems0 c ∗ G m c) : sProp 𝕄)
    ⊢ |={Set.univ}=> bigSep Finset.univ (G' m) :=
  ((bigSep_mono fun c _ => open_cells m c).trans (bigSep_fupd _ _)).trans (BI.fupd_mono (regroup m))

/-! ## The credit of what the others owe -/

/-- The credit a device holds against the payments `l` of the others. -/
def dueCreds (c : Dev nD) : List Due → sProp 𝕄
  | [] => iprop(emp)
  | p :: l => iprop(dueCreds c l ∗ cred (tallyAt ((c : Thread nD τ), dueSem p) () (dueAmt p)))

theorem launch_creds (c : Dev nD) : ∀ l : List Due, (Pipeline.launchCred (fun d => owing d l) c : sProp 𝕄) ⊢ dueCreds c l
  | [] => Entails.of_eq (Pipeline.launchCred_zero c)
  | p :: l => (Entails.of_eq (Pipeline.launchCred_add (fun d => owing d l) (fun d => tallyAt ((nx p.2 d : Thread nD τ), dueSem p) () (dueAmt p)) c)).trans
      (BI.sep_mono (launch_creds c l) (Pipeline.launchCred_tallyAt (dueSem p) (nx p.2) (pv p.2) (nx_pv p.2) (pv_nx p.2) () (dueAmt p) c))

/-- Two credits at one cell are their sum's. -/
theorem cred_join (g : GSem nD τ sig) (a b : ℕ) : iprop(cred (tallyAt g () a) ∗ cred (tallyAt g () b)) ⊢ (cred (tallyAt g () (a + b)) : sProp 𝕄) := by
  rw [← tallyAt_add]; exact (cred_add _ _).2

theorem creds (c : Dev nD) : (Pipeline.launchCred (fun d => owing d D0) c : sProp 𝕄) ⊢ credits c := by
  refine (launch_creds c D0).trans ?_
  unfold credits
  rw [bigSep_fin7, bigSep_fin7, show NX 1 = NW from if_pos (by decide), show NX 3 = NM from if_neg (by decide)]
  show iprop(dueCreds c D0) ⊢ (_ : sProp 𝕄)
  simp only [dueCreds, dueSem, dueAmt]
  iintro ⟨⟨⟨⟨⟨⟨⟨⟨⟨⟨⟨⟨⟨⟨⟨⟨⟨⟨⟨⟨⟨-, W3⟩, W4⟩, W2⟩, W5⟩, W1⟩, W6⟩, W0⟩, M6⟩, M5⟩, M4⟩, M3⟩, M2⟩, M1⟩, M0⟩, B6⟩, B5⟩, B4⟩, B3⟩, B2⟩, B1⟩, B0⟩
  ihave B := (cred_join (barCell c) 1 1) $$ [B0 B1]
  · iframe
  ihave B := (cred_join (barCell c) 2 1) $$ [B B2]
  · iframe
  ihave B := (cred_join (barCell c) 3 1) $$ [B B3]
  · iframe
  ihave B := (cred_join (barCell c) 4 1) $$ [B B4]
  · iframe
  ihave B := (cred_join (barCell c) 5 1) $$ [B B5]
  · iframe
  ihave B := (cred_join (barCell c) 6 1) $$ [B B6]
  · iframe
  iframe

/-! ## The run -/

/-- The argument no kernel reads, whole at what it holds. -/
def spare (c : Dev nD) : sProp 𝕄 := ((c : Thread nD τ).loc main_arg1) ↦{fullShare} m ((c : Thread nD τ).loc main_arg1)

theorem start_intro (c : Dev nD) :
    iprop(Pipeline.unscopedRestP Pipeline.Prefetch.none cfg0.spec c (fun b => m ((c : Thread nD τ).loc b)) ∗ levAts L lv
        ∗ Pipeline.launchCred (fun d => owing d D0) c ∗ prngReg c (ρ c) ∗ G' m c)
      ⊢ |={Set.univ}=> iprop(start m c ∗ spare m c) := by
  rw [Pipeline.unscopedRestP_eq_of_list (c := c) (win := cfg0.spec) Pipeline.Prefetch.none (fun b => m ((c : Thread nD τ).loc b)) [main_arg1] (by decide) (by decide)]
  show iprop(spare m c ∗ levAts L lv ∗ Pipeline.launchCred (fun d => owing d D0) c ∗ prngReg c (ρ c) ∗ G' m c)
      ⊢ |={Set.univ}=> iprop(start m c ∗ spare m c)
  iintro ⟨Hs, Hlev, Hcr, -, HG⟩
  ihave Hc := (creds (F := F) c) $$ Hcr
  imodintro
  unfold start G'
  iframe

theorem phi0_intro (c : Dev nD) :
    iprop(start m c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m c from rfl, scopedRest0_eq]
  unfold Φ₀
  iintro ⟨Hs, -, Hw, Hm⟩
  iframe

theorem phi1_exit (c : Dev nD) :
    (dats m ρ 0 c).Φ (Fin.last cfg0.N) ⊢ iprop(unscopedSems0 c ∗ Pipeline.ownSems0 osem c ∗ Pipeline.scopedRest cfg0.spec c) := by
  rw [show (dats m ρ 0 c).Φ (Fin.last cfg0.N) = Φ₁ m c from rfl, scopedRest0_eq, ownSems0_eq, unscopedSems0_eq]
  unfold Φ₁
  iintro ⟨HB, HX, Hw, Hm⟩
  iframe
  isplitl [Hw]; · iexists (wAll m); iexact Hw
  iexists (mAll m); iexact Hm

theorem waits (c : Dev nD) : (levAts L lv : sProp 𝕄) ⊢ Pipeline.cellsWaits cfgs (dats m ρ) () 0 c :=
  Pipeline.cellsWaits_intro cfgs (dats m ρ) () 0 c fun w s t => by
    rcases t with ⟨_ | _, ht⟩
    · exact mayWait_of c _ D0 (by fin_cases w <;> fin_cases s <;> decide)
    · exact mayWait_of c _ [] (by intro p hp; exact absurd hp List.not_mem_nil)

/-- The contents a device's window arrays end with. -/
def finalA (c : Dev nD) (w : Fin cfg0.W) : Buf (Elt F) ((cfg0.win w).arr.view.loc (c : Thread nD τ)) := (dats m ρ 0 c).arrAt w cfg0.N

/-- What the run ends with on every device. -/
def QC : PUnit × MemSt nD τ sig (Elt F) → Prop := fun r => ∀ c : Dev nD,
  (∀ w : Fin cfg0.W, r.2.mem ((cfg0.win w).arr.view.loc (c : Thread nD τ)) = finalA m ρ c w)
    ∧ r.2.mem ((c : Thread nD τ).loc main_arg1) = m ((c : Thread nD τ).loc main_arg1)

/-- From any memory with all semaphores at zero, every fair run of the program on the eight devices ends, with every
    window's array at its final contents, the spare argument unchanged, and every semaphore back at zero. -/
theorem run_main : θ_run defs (onTc (τ := τ) (main (F := F))) (s₀ m ρ) (fun r => QC m ρ r ∧ r.2.sem = fun _ => 0) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := body_obligation m ρ) (hne := fun w => by fin_cases w <;> exact Nat.succ_pos _) (harr := arr_whole0) (hstage := stage_whole0) (hshare := share_eq m ρ)
    (hdistinct := winFacts0.arr_inj)
    (O₀ := fun d => owing d D0) (howed₀ := fun _ => rfl) (howedN := fun _ => rfl)
    (L := L) (lv := lv) (hL := L_of_ne) (hwaits := waits m ρ)
    (G := G m) (G' := G' m) (u₀ := u₀)
    (hu₀ := by
      unfold u₀
      iintro Hu
      ihave H := (ownU_pair _ _) $$ Hu
      icases H with ⟨HP, HX⟩
      imod (fund_ex m) $$ HX with HG
      imodintro
      isplitl [HP] <;> iassumption)
    (hglob := glob m)
    (hA := fun _ _ => rfl) (hpf := fun _ k => k.elim0)
    (X := start m) (Y := fun c => unscopedSems0 c) (Z := fun c => spare m c)
    (hX := start_intro m ρ) (hin := phi0_intro m ρ) (hout := phi1_exit m ρ)
    (QY := fun c s => (∀ sm : SemLoc sig, sm.isScoped .tc = false → s.sem ((c.tc : Thread nD τ), sm) = 0)
      ∧ s.mem ((c : Thread nD τ).loc main_arg1) = m ((c : Thread nD τ).loc main_arg1))
    (hY := fun c s' => by
      unfold spare
      iintro ⟨Hu, Hs, HSI⟩
      ihave %hs := (SI_pointsTo_agree (st := s') (ℓ := (c : Thread nD τ).loc main_arg1) (I := Finset.univ) (q := fullShare)
        (f := m ((c : Thread nD τ).loc main_arg1))) $$ [Hs HSI]
      · iframe
      imod (Pipeline.unscopedSems0_read (X := unscopedSems0 c) (c := c) fupd_intro s') $$ [Hu HSI] with ⟨%hu, HSI⟩
      · iframe
      imodintro
      iframe HSI
      ipureintro
      exact ⟨hu, funext fun i => hs i (Finset.mem_univ i)⟩)
    (hQ := fun _ h hs => ⟨fun c => ⟨(h c).1, (h c).2.2.2⟩, sem_eq_zero hs fun c => (h c).2.2.1⟩)

/-- The three staged arguments end as they began, and the result is what the body left. -/
theorem finalA_x (c : Dev nD) : finalA m ρ c (0 : Fin 4) = m ((c : Thread nD τ).loc main_arg0) := (dats m ρ 0 c).arrAt_in (0 : Fin 4) rfl _
theorem finalA_i (c : Dev nD) : finalA m ρ c (1 : Fin 4) = m ((c : Thread nD τ).loc main_arg2) := (dats m ρ 0 c).arrAt_in (1 : Fin 4) rfl _
theorem finalA_e (c : Dev nD) : finalA m ρ c (2 : Fin 4) = m ((c : Thread nD τ).loc main_arg3) := (dats m ρ 0 c).arrAt_in (2 : Fin 4) rfl _

/-- All arguments unchanged. -/
theorem args_kept {r : PUnit × MemSt nD τ sig (Elt F)} (h : QC m ρ r) (c : Dev nD) :
    r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  ⟨((h c).1 0).trans (finalA_x m ρ c), (h c).2, ((h c).1 1).trans (finalA_i m ρ c), ((h c).1 2).trans (finalA_e m ρ c)⟩

/-- The frame: the program runs, keeps its arguments and leaves every semaphore at zero. -/
theorem run_frame : θ_run defs (onTc (τ := τ) (main (F := F))) (s₀ m ρ) (fun r => (∀ c : Dev nD,
    r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)) ∧ r.2.sem = fun _ => 0) :=
  θ_run_mono (run_main m ρ) fun r h => ⟨args_kept m ρ h.1, h.2⟩

/-- A window's one block of a whole array is the array. -/
theorem blk_emb (i : S512x512.Idx) : (win0_3.blk t₀).view.emb i = i := by
  funext a; apply Fin.ext
  fin_cases a
  · show 0 + 1 * (i 0).val = (i 0).val; omega
  · show 0 + 1 * (i 1).val = (i 1).val; omega

/-- The result array ends holding what the body left in its staging buffer. -/
theorem finalA_out (c : Dev nD) : finalA m ρ c (3 : Fin 4) = outAt m c :=
  (dats m ρ 0 c).arrAt_eq_of_cover (3 : Fin 4) (outAt m c)
    (fun t _ => by
      rw [fin_N t]
      funext j
      show outAt m c _ = outAt m c ((win0_3.blk t₀).view.emb j)
      rw [blk_emb])
    (fun i => ⟨t₀, flush0_3 t₀, by
      have h := View.emb_mem_set (win0_3.blk t₀).view i
      rw [blk_emb] at h; exact h⟩)

end Cert.KernelIdeal.Exchange
-- ==== Proof.Scalars.lean ====
/-
Facts about single numbers and finite sums that both programs' values need: a largest entry taken axis by axis, rounding
to a signed byte, comparisons as zeros and ones, and the count of a token among those of its expert.
-/
module

public import Idealize.ShloMosaic.Lib.Pointwise

@[expose] public section

noncomputable section

namespace Cert.Scalars

open Idealize.ShloMosaic

/-- The largest entry of a matrix, and a given number, is the same taken column by column or over all entries at once. -/
theorem max_entries {ι κ : Type} [Fintype ι] [Fintype κ] (b : EReal) (f : ι → κ → EReal) :
    Finset.univ.fold max b (fun h : κ => Finset.univ.fold max b (fun d : ι => f d h))
      = Finset.univ.fold max b (fun p : ι × κ => f p.1 p.2) := by
  refine eq_of_forall_ge_iff fun c => ?_
  simp only [Finset.fold_max_le, Finset.mem_univ, true_imp_iff]
  constructor
  · rintro ⟨hb, h⟩
    exact ⟨hb, fun p => (h p.2).2 p.1⟩
  · rintro ⟨hb, h⟩
    exact ⟨hb, fun k => ⟨hb, fun d => h (d, k)⟩⟩

/-- A signed byte made of an integer clamped to the bytes' range reads back as that integer. -/
theorem byte_toInt (z : ℤ) : (BitVec.ofInt 8 (max (-128) (min 127 z))).toInt = max (-128) (min 127 z) := by
  rw [BitVec.toInt_ofInt]
  apply Int.bmod_eq_of_le <;> omega

/-- Rounding to the nearest integer and converting to a signed byte is clipping the rounded number to -128 and 127. -/
theorem byte_round (y : EReal) :
    (((Ideal.fptosi 8 (Ideal.liftRound Ideal.roundHalfEven y)).toInt : ℝ) : EReal)
      = min (((127#32 : BitVec 32).toInt : ℝ) : EReal)
          (max (((4294967168#32 : BitVec 32).toInt : ℝ) : EReal) (Ideal.liftRound Ideal.roundHalfEven y)) := by
  have hhi : (((127#32 : BitVec 32).toInt : ℝ) : EReal) = ((127 : ℝ) : EReal) := by
    rw [show (127#32 : BitVec 32).toInt = 127 from by decide]; norm_num
  have hlo : (((4294967168#32 : BitVec 32).toInt : ℝ) : EReal) = ((-128 : ℝ) : EReal) := by
    rw [show (4294967168#32 : BitVec 32).toInt = -128 from by decide]; norm_num
  rw [hhi, hlo]
  induction y with
  | bot =>
    rw [Ideal.liftRound_bot, Ideal.fptosi, Ideal.toIntClamped_bot, max_eq_left bot_le, min_eq_right (by exact_mod_cast (by norm_num : (-128 : ℝ) ≤ 127))]
    rw [show (BitVec.ofInt 8 (-((2 ^ (8 - 1) : ℕ) : ℤ))).toInt = -128 from by decide]; norm_num
  | top =>
    rw [Ideal.liftRound_top, Ideal.fptosi, Ideal.toIntClamped_top, max_eq_right le_top, min_eq_left le_top]
    rw [show (BitVec.ofInt 8 (((2 ^ (8 - 1) : ℕ) : ℤ) - 1)).toInt = 127 from by decide]; norm_num
  | coe r =>
    rw [Ideal.liftRound_coe, Ideal.fptosi, Ideal.toIntClamped_coe]
    have hz : (if (0 : ℝ) ≤ ((Ideal.roundHalfEven r : ℤ) : ℝ) then ⌊((Ideal.roundHalfEven r : ℤ) : ℝ)⌋ else ⌈((Ideal.roundHalfEven r : ℤ) : ℝ)⌉)
        = Ideal.roundHalfEven r := by split_ifs <;> simp
    rw [hz]
    generalize Ideal.roundHalfEven r = z
    rw [show (-((2 ^ (8 - 1) : ℕ) : ℤ)) = -128 from by norm_num, show (((2 ^ (8 - 1) : ℕ) : ℤ) - 1) = 127 from by norm_num, byte_toInt]
    rw [← EReal.coe_strictMono.monotone.map_max, ← EReal.coe_strictMono.monotone.map_min]
    congr 1
    push_cast
    rw [max_min_distrib_left, max_eq_right (by norm_num : (-128 : ℝ) ≤ 127)]

/-- A one-bit answer widened to a word and read as a number: one for yes, zero for no. -/
theorem bit_signed (b : BitVec 1) : (((b.setWidth 32).toInt : ℝ) : EReal) = ((if b = 1#1 then 1 else 0 : ℕ) : EReal) := by
  rcases BitVec.eq_zero_or_eq_one b with h | h <;> subst h <;> norm_num

/-- A one-bit answer read as a number: one for yes, zero for no. -/
theorem bit_unsigned (b : BitVec 1) : ((b.toNat : ℝ) : EReal) = ((if b = 1#1 then 1 else 0 : ℕ) : EReal) := by
  rcases BitVec.eq_zero_or_eq_one b with h | h <;> subst h <;> norm_num

/-- Whether two words are equal, as a bit. -/
theorem cmpi_eq_one (x y : BitVec 32) : IntOp.cmpi .eq x y = 1#1 ↔ x = y := by
  unfold IntOp.cmpi
  by_cases h : x = y
  · simp [h]
  · simp [beq_eq_false_iff_ne.2 h, h]

/-- Small numbers written as words compare as the numbers do. -/
theorem ofNat_toInt {a : ℕ} (ha : a < 2 ^ 31) : (BitVec.ofNat 32 a).toInt = a := by
  rw [BitVec.toInt_ofNat']
  apply Int.bmod_eq_of_le <;> omega
theorem cmpi_slt_one {a b : ℕ} (ha : a < 2 ^ 31) (hb : b < 2 ^ 31) :
    IntOp.cmpi .slt (BitVec.ofNat 32 a) (BitVec.ofNat 32 b) = 1#1 ↔ a < b := by
  unfold IntOp.cmpi
  simp only [BitVec.slt_eq_decide, ofNat_toInt ha, ofNat_toInt hb]
  by_cases h : a < b <;> simp [h]
theorem cmpi_sge_one {a b : ℕ} (ha : a < 2 ^ 31) (hb : b < 2 ^ 31) :
    IntOp.cmpi .sge (BitVec.ofNat 32 a) (BitVec.ofNat 32 b) = 1#1 ↔ b ≤ a := by
  unfold IntOp.cmpi
  simp only [BitVec.sle_eq_decide, ofNat_toInt ha, ofNat_toInt hb]
  by_cases h : b ≤ a <;> simp [h]
theorem andi_one (a b : BitVec 1) : IntOp.andi a b = 1#1 ↔ a = 1#1 ∧ b = 1#1 := by
  revert a b; decide

/-- An answer written as a bit is one when it is yes. -/
theorem ofBool_one (b : Bool) : BitVec.ofBool b = 1#1 ↔ b = true := by cases b <;> decide

/-- A sum of terms all kept or all dropped by one answer is the sum kept or dropped. -/
theorem sum_select {ι : Type} [Fintype ι] (b : BitVec 1) (f : ι → EReal) :
    ∑ i, Scalar.select b (f i) 0 = Scalar.select b (∑ i, f i) 0 := by
  rcases BitVec.eq_zero_or_eq_one b with h | h <;> subst h <;> simp [Scalar.select]

/-- The capacity is 204. -/
theorem capacity : Ideal.ofBits .f32 0x434C0000#32 = ((204 : ℕ) : EReal) := by
  have h : Ideal.ofBits .f32 0x434C0000#32 = ((204 : ℝ) : EReal) := by
    simp [Ideal.ofBits, Ideal.ieee, -EReal.coe_mul]; norm_num
  rw [h, ← EReal.coe_natCast (n := 204)]
  congr 1

/-- Counting a token of an expert, together with the expert's tokens before it on its own device and those on the devices
    before, gives one more than the number of the expert's tokens before it in the whole list. -/
theorem place_of_token (G : Fin 8 → Fin 512 → Prop) [∀ o x, Decidable (G o x)] (c : Fin 8) (r : Fin 512) (h : G c r) :
    (∑ x : Fin 512, if x.val ≤ r.val ∧ G c x then 1 else 0) + (∑ o : Fin 8, if o.val < c.val then ∑ x : Fin 512, (if G o x then 1 else 0) else 0)
      = (∑ o : Fin 8, ∑ x : Fin 512, if G o x ∧ o.val * 512 + x.val < c.val * 512 + r.val then 1 else 0) + 1 := by
  have own : (∑ x : Fin 512, if x.val ≤ r.val ∧ G c x then 1 else 0) = (∑ x : Fin 512, if x.val < r.val ∧ G c x then 1 else 0) + 1 := by
    have e : ∀ x : Fin 512, (if x.val ≤ r.val ∧ G c x then 1 else 0) = (if x.val < r.val ∧ G c x then 1 else 0) + (if x = r then 1 else 0) := by
      intro x
      by_cases hx : x = r
      · subst hx; simp [h]
      · have hv : x.val ≠ r.val := fun e => hx (Fin.ext e)
        have : x.val ≤ r.val ↔ x.val < r.val := by omega
        simp [hx, this]
    rw [Finset.sum_congr rfl fun x _ => e x, Finset.sum_add_distrib]
    simp
  have each : ∀ o : Fin 8, (∑ x : Fin 512, if G o x ∧ o.val * 512 + x.val < c.val * 512 + r.val then 1 else 0)
      = (if o.val < c.val then ∑ x : Fin 512, (if G o x then 1 else 0) else 0)
        + (if o = c then ∑ x : Fin 512, (if x.val < r.val ∧ G c x then 1 else 0) else 0) := by
    intro o
    by_cases h1 : o.val < c.val
    · have h2 : o ≠ c := fun e => by subst e; omega
      rw [if_pos h1, if_neg h2, Nat.add_zero]
      refine Finset.sum_congr rfl fun x _ => ?_
      have : o.val * 512 + x.val < c.val * 512 + r.val := by have := x.isLt; omega
      simp [this]
    · rw [if_neg h1, Nat.zero_add]
      by_cases h2 : o = c
      · subst h2; rw [if_pos rfl]
        refine Finset.sum_congr rfl fun x _ => ?_
        have : o.val * 512 + x.val < o.val * 512 + r.val ↔ x.val < r.val := by omega
        simp only [this, and_comm]
      · rw [if_neg h2]
        refine Finset.sum_eq_zero fun x _ => ?_
        have hv : o.val ≠ c.val := fun e => h2 (Fin.ext e)
        have : ¬ o.val * 512 + x.val < c.val * 512 + r.val := by have := r.isLt; omega
        simp [this]
  rw [Finset.sum_congr rfl fun o _ => each o, Finset.sum_add_distrib, own]
  simp only [Finset.sum_ite_eq', Finset.mem_univ, if_true]
  omega

end Cert.Scalars
-- ==== Proof.Meaning.lean ====
/-
What one token's output is, in terms of the whole arrays; both programs are shown to compute it.
-/
module

public import Idealize.ShloMosaic.Lib.Pointwise

@[expose] public section

noncomputable section

namespace Cert.Moe

open Idealize.ShloMosaic

/-- Token `r` of device `c` in the list of all tokens, and expert `k` of device `c` in the list of all experts. -/
def tok (c : Fin 8) (r : Fin 512) : Fin 4096 := ⟨c.val * 512 + r.val, by omega⟩
def ex (c : Fin 8) (k : Fin 2) : Fin 16 := ⟨c.val * 2 + k.val, by omega⟩

/-- An expert's scale: its matrix's largest magnitude over 127, and a tiny number more. -/
def scale (w : Fin 256 → Fin 512 → EReal) : EReal :=
  Ideal.div (Finset.univ.fold max (Ideal.ofBits .bf16 0xFF80#16) fun p : Fin 256 × Fin 512 => FloatOps.absf (F := Ideal) (φ := .bf16) (w p.1 p.2))
      (Ideal.ofBits .bf16 0x42FE#16) + Ideal.ofBits .bf16 0x0DA2#16

/-- An entry in units of its expert's scale, rounded and clipped to a signed byte's range. -/
def level (w : Fin 256 → Fin 512 → EReal) (d : Fin 256) (h : Fin 512) : EReal :=
  min (((127#32 : BitVec 32).toInt : ℝ) : EReal) (max (((4294967168#32 : BitVec 32).toInt : ℝ) : EReal)
    (Ideal.liftRound Ideal.roundHalfEven (Ideal.div (w d h) (scale w))))

/-- Column `h` of a token's row times an expert's quantised matrix. -/
def dot (x : Fin 256 → EReal) (w : Fin 256 → Fin 512 → EReal) (h : Fin 512) : EReal :=
  ∑ d : Fin 256, x d * (level w d h * scale w)

variable (x : (⟨2, ![4096, 256]⟩ : Shape).Idx → EReal) (i : (⟨2, ![4096, 1]⟩ : Shape).Idx → BitVec 32)
  (w : (⟨3, ![16, 256, 512]⟩ : Shape).Idx → EReal)

/-- Column `h` of token `t` under expert `e`: the product if the token is routed to the expert, zero if not. -/
def term (t : Fin 4096) (h : Fin 512) (e : Fin 16) : EReal :=
  Scalar.select (IntOp.cmpi .eq (i (ix2 t 0)) (BitVec.ofNat 32 e.val)) (dot (fun d => x (ix2 t d)) (fun d l => w (ix3 e d l)) h) 0

/-- How many tokens before token `t` are routed to its expert. -/
def earlier (t : Fin 4096) : ℕ :=
  ∑ o : Fin 8, ∑ r : Fin 512, if i (ix2 (tok o r) 0) = i (ix2 t 0) ∧ o.val * 512 + r.val < t.val then 1 else 0

/-- Column `h` of token `t`'s output. -/
def out (t : Fin 4096) (h : Fin 512) : EReal :=
  if earlier i t < 204 then ∑ e : Fin 16, term x i w t h e else 0

end Cert.Moe
-- ==== Proof.Chunks.lean ====
/-
The kernel's computations, entry by entry: scales, quantised weights, one-hot rows, and what each device's experts add to
the accumulator.
-/
module

public import proofs.«01_k».proof.Defs
public import proofs.«01_k».proof.Proof.Gen.KernelIdeal
public import proofs.«01_k».proof.Proof.Gen.KernelIdeal.Skeleton
public import proofs.«01_k».proof.Proof.Scalars
public import proofs.«01_k».proof.Proof.Meaning

@[expose] public section

noncomputable section

namespace Cert.KernelIdeal.Entries

open Cert.KernelIdeal Cert.KernelIdeal.Gen Cert.Scalars Idealize.ShloMosaic

/-! ## Scales and quantised weights -/

/-- The scale of a device's expert `k`. -/
theorem pay2_apply (w : FVec Ideal S2x256x512 .bf16) (k : Fin 2) :
    k0_pay2 (F := Ideal) w (ix3 k 0 0) = Moe.scale fun d h => w (ix3 k d h) := by
  unfold k0_pay2 k0_pay1
  pointwise
  rw [max_entries (Ideal.ofBits .bf16 0xFF80#16) fun (d : Fin 256) (h : Fin 512) => FloatOps.absf (F := Ideal) (φ := .bf16) (w (ix3 k d h))]
  rfl

/-- A byte of a device's expert `k`, read as a number. -/
theorem pay7_apply (w : FVec Ideal S2x256x512 .bf16) (k : Fin 2) (d : Fin 256) (h : Fin 512) :
    FloatOps.sitofp (F := Ideal) .bf16 (k0_pay7 (F := Ideal) (k0_pay1 w) (k0_pay2 w) (ix4 0 k d h)) = Moe.level (fun d h => w (ix3 k d h)) d h := by
  unfold k0_pay7 k0_pay1
  pointwise [pay2_apply]
  exact byte_round _

/-! ## One-hot rows and counts -/

/-- Whether a token is routed to the expert of a lane, as one or zero. -/
theorem pay4_apply (i : Vec Ideal S512x1 .i32) (r : Fin 512) (l : Fin 128) :
    k0_pay4 (F := Ideal) i (ix2 r l) = ((if i (ix2 r 0) = BitVec.ofNat 32 l.val then 1 else 0 : ℕ) : EReal) := by
  unfold k0_pay4 k0_pay3
  pointwise
  exact (bit_signed _).trans (by simp only [cmpi_eq_one])

/-- The row a device sends: in the experts' lanes how many of its tokens go to each. -/
theorem row_count (w : FVec Ideal S2x256x512 .bf16) (i : Vec Ideal S512x1 .i32) (l : Fin 128) (hl : l.val < 16) :
    k0_pay6 (F := Ideal) (k0_pay5 w i) (ix2 0 l) = ((∑ r : Fin 512, if i (ix2 r 0) = BitVec.ofNat 32 l.val then 1 else 0 : ℕ) : EReal) := by
  unfold k0_pay6 k0_pay5
  pointwise
  simp only [pay4_apply, dif_pos hl, add_zero, Nat.cast_sum]

/-- The row a device sends: in the two lanes after the experts', when no token of the device is numbered by either, its
    experts' scales. -/
theorem row_scale (w : FVec Ideal S2x256x512 .bf16) (i : Vec Ideal S512x1 .i32) (k : Fin 2) (l : Fin 128) (hl : l.val = 16 + k.val)
    (h : ∀ r : Fin 512, i (ix2 r 0) ≠ BitVec.ofNat 32 l.val) :
    k0_pay6 (F := Ideal) (k0_pay5 w i) (ix2 0 l) = Moe.scale fun d h => w (ix3 k d h) := by
  unfold k0_pay6 k0_pay5
  pointwise
  have hk : (⟨l.val - 16, by omega⟩ : Fin 2) = k := Fin.ext (show l.val - 16 = k.val by omega)
  have h₁ : ¬ l.val < 16 := by omega
  have h₂ : l.val - 16 < 2 := by omega
  rw [dif_neg h₁, dif_pos h₂]
  simp only [pay4_apply, if_neg (h _), Nat.cast_zero, Finset.sum_const_zero, zero_add]
  rw [pay2_apply, hk]

/-- The tokens up to and including a row that are routed to a lane's expert, counted. -/
theorem pay13_apply (q : FVec Ideal S512x128 .f32) (g : Fin 512 → ℕ) (r : Fin 512) (l : Fin 128) (hq : ∀ u, q (ix2 u l) = (g u : EReal)) :
    k0_pay13 (F := Ideal) q (ix2 r l) = ((∑ u : Fin 512, if u.val ≤ r.val then g u else 0 : ℕ) : EReal) := by
  unfold k0_pay13
  pointwise [dot_S512x512_S512x128_S512x128_1_0_0_1_n_n]
  rw [Nat.cast_sum]
  refine Finset.sum_congr rfl fun u _ => ?_
  rw [hq u]
  refine (congrArg (· * _) (bit_signed _)).trans ?_
  simp only [cmpi_sge_one (by omega : r.val < 2 ^ 31) (by omega : u.val < 2 ^ 31)]
  split_ifs <;> simp

/-! ## What one device's experts add -/

/-- What the two experts of the device numbered `o` add for a token routed to `i`: the products with the bytes, the
    token's row first times the expert's scale. -/
def chunk (i : BitVec 32) (x : Fin 256 → EReal) (o : BitVec 32) (s : Fin 2 → EReal) (q : Fin 2 → Fin 256 → EReal) : EReal :=
  Scalar.select (IntOp.cmpi .eq i (Scalar.muli 2#32 o)) (∑ d : Fin 256, x d * s 0 * q 0 d) 0
    + Scalar.select (IntOp.cmpi .eq i (Scalar.addi (Scalar.muli 2#32 o) 1#32)) (∑ d : Fin 256, x d * s 1 * q 1 d) 0

/-- The rows of the stacked bytes are the two experts' rows in turn. -/
theorem slab_lo (q : Vec Ideal S1x2x256x512 .i8) (d : Fin 256) (h : Fin 512) (p₁ : d.val / 256 < 2) (p₂ : d.val % 256 < 256) :
    q (ix4 0 ⟨d.val / 256, p₁⟩ ⟨d.val % 256, p₂⟩ h) = q (ix4 0 0 d h) := by
  have e₁ : (⟨d.val / 256, p₁⟩ : Fin 2) = 0 := Fin.ext (Nat.div_eq_of_lt d.isLt)
  have e₂ : (⟨d.val % 256, p₂⟩ : Fin 256) = d := Fin.ext (Nat.mod_eq_of_lt d.isLt)
  rw [e₁, e₂]
theorem slab_hi (q : Vec Ideal S1x2x256x512 .i8) (d : Fin 256) (h : Fin 512) (p₁ : (256 + d.val) / 256 < 2) (p₂ : (256 + d.val) % 256 < 256) :
    q (ix4 0 ⟨(256 + d.val) / 256, p₁⟩ ⟨(256 + d.val) % 256, p₂⟩ h) = q (ix4 0 1 d h) := by
  have e₁ : (⟨(256 + d.val) / 256, p₁⟩ : Fin 2) = 1 := Fin.ext (show (256 + d.val) / 256 = 1 by omega)
  have e₂ : (⟨(256 + d.val) % 256, p₂⟩ : Fin 256) = d := Fin.ext (show (256 + d.val) % 256 = d.val by omega)
  rw [e₁, e₂]

/-- A slab's bytes at a column, as numbers. -/
abbrev bytes (q : Vec Ideal S1x2x256x512 .i8) (h : Fin 512) (k : Fin 2) (d : Fin 256) : EReal := FloatOps.sitofp (F := Ideal) .bf16 (q (ix4 0 k d h))
/-- The two scales in a row received. -/
abbrev scales (m : Vec Ideal S1x128 .f32) : Fin 2 → EReal := fun k => if k = 0 then m (ix2 0 16) else m (ix2 0 17)

variable (i : IVec S512x1 32) (x : FVec Ideal S512x256 .bf16) (a : FVec Ideal S512x512 .f32) (v o : BitVec 32) (m : Vec Ideal S1x128 .f32)
  (q : Vec Ideal S1x2x256x512 .i8) (r h : Fin 512)

/-- The device's own experts. -/
theorem own_chunk (s : FVec Ideal S2x1x1 .bf16) :
    k0_pay12 (F := Ideal) k0_pay9 (k0_pay10 v s i x) (k0_pay11 q) (ix2 r h)
      = chunk (i (ix2 r 0)) (fun d => x (ix2 r d)) v (fun k => s (ix3 k 0 0)) (bytes q h) := by
  unfold k0_pay12 k0_pay9 k0_pay10 k0_pay8 k0_pay11
  pointwise [dot_S512x512_S512x512_S512x512_1_0_0_1_n_n]
  simp only [slab_lo, slab_hi, sum_select]
  rfl

/-- Another device's experts, the device's number at hand. -/
theorem pay18_apply : k0_pay18 (F := Ideal) i x a o m q (ix2 r h) = a (ix2 r h) + chunk (i (ix2 r 0)) (fun d => x (ix2 r d)) o (scales m) (bytes q h) := by
  unfold k0_pay18
  pointwise [dot_S512x512_S512x512_S512x512_1_0_0_1_n_n]
  simp only [slab_lo, slab_hi, sum_select]
  rfl
theorem pay25_apply : k0_pay25 (F := Ideal) i x a o m q (ix2 r h) = a (ix2 r h) + chunk (i (ix2 r 0)) (fun d => x (ix2 r d)) o (scales m) (bytes q h) :=
  pay18_apply i x a o m q r h
theorem pay20_apply : k0_pay20 (F := Ideal) a (k0_pay19 i x o m q) (ix2 r h) = a (ix2 r h) + chunk (i (ix2 r 0)) (fun d => x (ix2 r d)) o (scales m) (bytes q h) :=
  pay18_apply i x a o m q r h
theorem pay27_apply : k0_pay27 (F := Ideal) a (k0_pay26 i x o m q) (ix2 r h) = a (ix2 r h) + chunk (i (ix2 r 0)) (fun d => x (ix2 r d)) o (scales m) (bytes q h) :=
  pay18_apply i x a o m q r h

/-- Another device's experts, the device's number computed from the device's own. -/
theorem pay17_apply : k0_pay17 (F := Ideal) x a (k0_pay14 m) (k0_pay15 v i m) (k0_pay16 v i) q (ix2 r h)
    = a (ix2 r h) + chunk (i (ix2 r 0)) (fun d => x (ix2 r d)) (Scalar.remsi (Scalar.addi (Scalar.subi (Scalar.subi v 0#32) 1#32) 8#32) 8#32) (scales m) (bytes q h) :=
  pay18_apply i x a _ m q r h
theorem pay24_apply : k0_pay24 (F := Ideal) x a (k0_pay21 m) (k0_pay22 v i m) (k0_pay23 v i) q (ix2 r h)
    = a (ix2 r h) + chunk (i (ix2 r 0)) (fun d => x (ix2 r d)) (Scalar.remsi (Scalar.addi (Scalar.subi (Scalar.subi v 5#32) 1#32) 8#32) 8#32) (scales m) (bytes q h) :=
  pay18_apply i x a _ m q r h
theorem pay31_apply : k0_pay31 (F := Ideal) x a (k0_pay28 m) (k0_pay29 v i m) (k0_pay30 v i) q (ix2 r h)
    = a (ix2 r h) + chunk (i (ix2 r 0)) (fun d => x (ix2 r d)) (Scalar.remsi (Scalar.addi (Scalar.subi (Scalar.subi v 3#32) 1#32) 8#32) 8#32) (scales m) (bytes q h) :=
  pay18_apply i x a _ m q r h

/-! ## The capacity mask -/

/-- The last step keeps the accumulator where the token's place among its expert's is at most 204, and zeroes it elsewhere. -/
theorem pay32_apply (c : Fin 8) (hv : v = BitVec.ofNat 32 c.val) (u g : FVec Ideal S512x128 .f32) (n : FVec Ideal S8x128 .f32) :
    k0_pay32 (F := Ideal) v u g a n (ix2 r h)
      = a (ix2 r h) * ((if ∑ l : Fin 128, u (ix2 r l) * (g (ix2 r l) + ∑ o : Fin 8, if o.val < c.val then n (ix2 o l) else 0) ≤ ((204 : ℕ) : EReal) then 1 else 0 : ℕ) : EReal) := by
  unfold k0_pay32
  pointwise
  refine congrArg (a (ix2 r h) * ·) ?_
  refine (bit_signed _).trans ?_
  have e : ∀ (l : Fin 128) (o : Fin 8), n (ix2 o l) * FloatOps.sitofp (F := Ideal) FTy.f32 (BitVec.setWidth 32 (IntOp.cmpi CmpIPredicate.slt (BitVec.ofNat 32 o.val) v))
      = if o.val < c.val then n (ix2 o l) else 0 := fun l o => by
    refine (congrArg (_ * ·) (bit_signed _)).trans ?_
    subst hv
    simp only [cmpi_slt_one (by omega : o.val < 2 ^ 31) (by omega : c.val < 2 ^ 31)]
    split_ifs <;> simp
  simp only [e, capacity]
  refine congrArg (Nat.cast (R := EReal)) (if_congr ?_ rfl rfl)
  exact (ofBool_one _).trans decide_eq_true_iff

end Cert.KernelIdeal.Entries
-- ==== Proof.KernelIdealValue.lean ====
/-
The kernel's result, entry by entry: on device `c`, row `r` and column `h` hold column `h` of the output of the device's
token `r`, provided no token is routed to a number the kernel uses as a lane of its own.
-/
module

public import proofs.«01_k».proof.Proof.KernelIdealRun
public import proofs.«01_k».proof.Proof.Chunks

@[expose] public section

noncomputable section

namespace Cert.KernelIdeal.Exchange

open Cert.KernelIdeal Cert.KernelIdeal.Gen Cert.KernelIdeal.Entries Cert.Scalars
open Idealize.ShloMosaic
open Idealize.ShloMosaic.TcCoe

variable (m : (ℓ : Loc nD τ sig) → Buf (Elt Ideal) ℓ)

/-! ## The staged arguments are the argument arrays -/

theorem xstg_eq (c : Dev nD) (r : Fin 512) (d : Fin 256) : xstg m c (ix2 r d) = m ((c : Thread nD τ).loc main_arg0) (ix2 r d) := by
  refine congrArg (m ((c : Thread nD τ).loc main_arg0)) (funext fun a => Fin.ext ?_)
  fin_cases a
  · show 0 + 1 * r.val = r.val; omega
  · show 0 + 1 * d.val = d.val; omega
theorem istg_eq (c : Dev nD) (r : Fin 512) : istg m c (ix2 r 0) = m ((c : Thread nD τ).loc main_arg2) (ix2 r 0) := by
  refine congrArg (m ((c : Thread nD τ).loc main_arg2)) (funext fun a => Fin.ext ?_)
  fin_cases a
  · show 0 + 1 * r.val = r.val; omega
  · rfl
theorem estg_eq (c : Dev nD) (k : Fin 2) (d : Fin 256) (h : Fin 512) :
    estg m c (ix3 k d h) = m ((c : Thread nD τ).loc main_arg3) (ix3 k d h) := by
  refine congrArg (m ((c : Thread nD τ).loc main_arg3)) (funext fun a => Fin.ext ?_)
  fin_cases a
  · show 0 + 1 * k.val = k.val; omega
  · show 0 + 1 * d.val = d.val; omega
  · show 0 + 1 * h.val = h.val; omega

/-! ## Device numbers and expert numbers as words -/

theorem idW_eq : ∀ c : Dev nD, idW c = BitVec.ofNat 32 c.val := by decide
theorem prev0 : ∀ c : Dev nD, prevW c 0#32 = BitVec.ofNat 32 (pv 0 c).val := by decide
theorem prev1 : ∀ c : Dev nD, prevW c 1#32 = BitVec.ofNat 32 (pv 1 c).val := by decide
theorem prev2 : ∀ c : Dev nD, prevW c 2#32 = BitVec.ofNat 32 (pv 2 c).val := by decide
theorem prev3 : ∀ c : Dev nD, prevW c 3#32 = BitVec.ofNat 32 (pv 3 c).val := by decide
theorem prev4 : ∀ c : Dev nD, prevW c 4#32 = BitVec.ofNat 32 (pv 4 c).val := by decide
theorem prev5 : ∀ c : Dev nD, prevW c 5#32 = BitVec.ofNat 32 (pv 5 c).val := by decide
theorem prev6 : ∀ c : Dev nD, prevW c 6#32 = BitVec.ofNat 32 (pv 6 c).val := by decide
theorem even_expert : ∀ o : Fin 8, Scalar.muli 2#32 (BitVec.ofNat 32 o.val) = BitVec.ofNat 32 (Moe.ex o 0).val := by decide
theorem odd_expert : ∀ o : Fin 8, Scalar.addi (Scalar.muli 2#32 (BitVec.ofNat 32 o.val)) 1#32 = BitVec.ofNat 32 (Moe.ex o 1).val := by decide

/-- A number per device, added up in the order in which the devices' slabs arrive, is its sum over the devices. -/
theorem ring_sum (f : Fin 8 → EReal) (c : Dev nD) :
    f c + f (pv 0 c) + f (pv 6 c) + f (pv 1 c) + f (pv 5 c) + f (pv 2 c) + f (pv 4 c) + f (pv 3 c) = ∑ o : Fin 8, f o := by
  rw [Fin.sum_univ_eight]
  fin_cases c
  · change f 0 + f 7 + f 1 + f 6 + f 2 + f 5 + f 3 + f 4 = _; ac_rfl
  · change f 1 + f 0 + f 2 + f 7 + f 3 + f 6 + f 4 + f 5 = _; ac_rfl
  · change f 2 + f 1 + f 3 + f 0 + f 4 + f 7 + f 5 + f 6 = _; ac_rfl
  · change f 3 + f 2 + f 4 + f 1 + f 5 + f 0 + f 6 + f 7 = _; ac_rfl
  · change f 4 + f 3 + f 5 + f 2 + f 6 + f 1 + f 7 + f 0 = _; ac_rfl
  · change f 5 + f 4 + f 6 + f 3 + f 7 + f 2 + f 0 + f 1 = _; ac_rfl
  · change f 6 + f 5 + f 7 + f 4 + f 0 + f 3 + f 1 + f 2 = _; ac_rfl
  · change f 7 + f 6 + f 0 + f 5 + f 1 + f 4 + f 2 + f 3 = _; ac_rfl

/-! ## The accumulator -/

section Whole

variable {X : (⟨2, ![4096, 256]⟩ : Shape).Idx → EReal} {I : (⟨2, ![4096, 1]⟩ : Shape).Idx → BitVec 32}
  {W : (⟨3, ![16, 256, 512]⟩ : Shape).Idx → EReal}
  (hx : ∀ (c : Fin 8) (r : Fin 512) (d : Fin 256), xstg m c (ix2 r d) = X (ix2 (Moe.tok c r) d))
  (hi : ∀ (c : Fin 8) (r : Fin 512), istg m c (ix2 r 0) = I (ix2 (Moe.tok c r) 0))
  (hw : ∀ (c : Fin 8) (k : Fin 2) (d : Fin 256) (h : Fin 512), estg m c (ix3 k d h) = W (ix3 (Moe.ex c k) d h))
  (hn : ∀ (c : Fin 8) (r : Fin 512), istg m c (ix2 r 0) ≠ 16#32 ∧ istg m c (ix2 r 0) ≠ 17#32)

include hw in
/-- The bytes a device sends are its experts' levels. -/
theorem bytes_sent (o : Fin 8) (h : Fin 512) (k : Fin 2) (d : Fin 256) :
    bytes (wVal m o) h k d = Moe.level (fun d l => W (ix3 (Moe.ex o k) d l)) d h := by
  refine (pay7_apply (estg m o) k d h).trans ?_
  simp only [hw]

include hw hn in
/-- The two numbers a device sends after its counts are its experts' scales. -/
theorem scales_sent (o : Fin 8) (k : Fin 2) : scales (mVal m o) k = Moe.scale fun d l => W (ix3 (Moe.ex o k) d l) := by
  fin_cases k
  · refine (row_scale (estg m o) (istg m o) 0 16 rfl fun r => (hn o r).1).trans ?_
    simp only [hw]; rfl
  · refine (row_scale (estg m o) (istg m o) 1 17 rfl fun r => (hn o r).2).trans ?_
    simp only [hw]; rfl

/-- What device `o`'s experts add to column `h` of token `t`. -/
def pair (X : (⟨2, ![4096, 256]⟩ : Shape).Idx → EReal) (I : (⟨2, ![4096, 1]⟩ : Shape).Idx → BitVec 32)
    (W : (⟨3, ![16, 256, 512]⟩ : Shape).Idx → EReal) (t : Fin 4096) (h : Fin 512) (o : Fin 8) : EReal :=
  Moe.term X I W t h (Moe.ex o 0) + Moe.term X I W t h (Moe.ex o 1)

include hx hi in
/-- A device's experts' step, with the experts' scales and levels, adds the two experts' terms. -/
theorem chunk_pair (c : Dev nD) (r h : Fin 512) (o : Fin 8) (v : BitVec 32) (hv : v = BitVec.ofNat 32 o.val) (s : Fin 2 → EReal)
    (q : Fin 2 → Fin 256 → EReal) (hs : ∀ k, s k = Moe.scale fun d l => W (ix3 (Moe.ex o k) d l))
    (hq : ∀ k d, q k d = Moe.level (fun d l => W (ix3 (Moe.ex o k) d l)) d h) :
    chunk (istg m c (ix2 r 0)) (fun d => xstg m c (ix2 r d)) v s q = pair X I W (Moe.tok c r) h o := by
  subst hv
  unfold chunk pair Moe.term Moe.dot
  rw [odd_expert, even_expert, hi]
  simp only [hs, hq, hx, mul_assoc, mul_comm (Moe.scale _)]

theorem pay3_eq (i : Vec Ideal S512x1 .i32) (r : Fin 512) : k0_pay3 (F := Ideal) i (ix2 r 0) = i (ix2 r 0) := by
  unfold k0_pay3; pointwise
theorem pay8_eq (x : FVec Ideal S512x256 .bf16) (r : Fin 512) (d : Fin 256) : k0_pay8 (F := Ideal) x (ix2 r d) = x (ix2 r d) := by
  unfold k0_pay8; pointwise

include hx hi hw in
theorem acc0_apply (c : Dev nD) (r h : Fin 512) : acc0 m c (ix2 r h) = pair X I W (Moe.tok c r) h c := by
  refine (own_chunk (k0_pay3 (istg m c)) (xstg m c) (idW c) (wVal m c) r h (k0_pay2 (estg m c))).trans ?_
  rw [pay3_eq]
  refine chunk_pair m hx hi c r h c _ (idW_eq c) _ _ (fun k => ?_) (bytes_sent m hw c h)
  rw [pay2_apply]; simp only [hw]

include hx hi hw hn in
theorem add_chunk (c : Dev nD) (r h : Fin 512) (o : Fin 8) (v : BitVec 32) (hv : v = BitVec.ofNat 32 o.val) (a b : EReal) (hab : a = b) :
    a + chunk (k0_pay3 (F := Ideal) (istg m c) (ix2 r 0)) (fun d => k0_pay8 (F := Ideal) (xstg m c) (ix2 r d)) v (scales (mVal m o)) (bytes (wVal m o) h)
      = b + pair X I W (Moe.tok c r) h o := by
  simp only [pay3_eq, pay8_eq]
  rw [hab, chunk_pair m hx hi c r h o v hv _ _ (scales_sent m hw hn o) (bytes_sent m hw o h)]

include hx hi hw hn in
/-- After every device's slab the accumulator holds, for each token, the sum of all the experts' terms. -/
theorem acc7_apply (c : Dev nD) (r h : Fin 512) : acc7 m c (ix2 r h) = ∑ e : Fin 16, Moe.term X I W (Moe.tok c r) h e := by
  have e1 := (pay17_apply (k0_pay3 (istg m c)) (k0_pay8 (xstg m c)) (acc0 m c) (idW c) (mVal m (pv 0 c)) (wVal m (pv 0 c)) r h).trans
    (add_chunk m hx hi hw hn c r h (pv 0 c) _ (prev0 c) _ _ (acc0_apply m hx hi hw c r h))
  have e2 := (pay18_apply (k0_pay3 (istg m c)) (k0_pay8 (xstg m c)) (acc1 m c) (prevW c 6#32) (mVal m (pv 6 c)) (wVal m (pv 6 c)) r h).trans
    (add_chunk m hx hi hw hn c r h (pv 6 c) _ (prev6 c) _ _ e1)
  have e3 := (pay20_apply (k0_pay3 (istg m c)) (k0_pay8 (xstg m c)) (acc2 m c) (prevW c 1#32) (mVal m (pv 1 c)) (wVal m (pv 1 c)) r h).trans
    (add_chunk m hx hi hw hn c r h (pv 1 c) _ (prev1 c) _ _ e2)
  have e4 := (pay24_apply (k0_pay3 (istg m c)) (k0_pay8 (xstg m c)) (acc3 m c) (idW c) (mVal m (pv 5 c)) (wVal m (pv 5 c)) r h).trans
    (add_chunk m hx hi hw hn c r h (pv 5 c) _ (prev5 c) _ _ e3)
  have e5 := (pay25_apply (k0_pay3 (istg m c)) (k0_pay8 (xstg m c)) (acc4 m c) (prevW c 2#32) (mVal m (pv 2 c)) (wVal m (pv 2 c)) r h).trans
    (add_chunk m hx hi hw hn c r h (pv 2 c) _ (prev2 c) _ _ e4)
  have e6 := (pay27_apply (k0_pay3 (istg m c)) (k0_pay8 (xstg m c)) (acc5 m c) (prevW c 4#32) (mVal m (pv 4 c)) (wVal m (pv 4 c)) r h).trans
    (add_chunk m hx hi hw hn c r h (pv 4 c) _ (prev4 c) _ _ e5)
  have e7 := (pay31_apply (k0_pay3 (istg m c)) (k0_pay8 (xstg m c)) (acc6 m c) (idW c) (mVal m (pv 3 c)) (wVal m (pv 3 c)) r h).trans
    (add_chunk m hx hi hw hn c r h (pv 3 c) _ (prev3 c) _ _ e6)
  refine e7.trans ((ring_sum (pair X I W (Moe.tok c r) h) c).trans ?_)
  rw [Fin.sum_univ_tiles 8 2 rfl]
  exact Finset.sum_congr rfl fun o _ => (Fin.sum_univ_two fun k => Moe.term X I W (Moe.tok c r) h (Moe.ex o k)).symm

/-! ## The capacity -/

/-- The counts buffer once every row has arrived, as an array of numbers. -/
def rows : FVec Ideal S8x128 .f32 := mAll m

include hi in
/-- For a token routed to an expert, the number the last step compares is its place among all the tokens of the expert,
    counted from one. -/
theorem place_apply (c : Dev nD) (r : Fin 512) (e : Fin 16) (he : I (ix2 (Moe.tok c r) 0) = BitVec.ofNat 32 e.val) :
    ∑ l : Fin 128, k0_pay4 (F := Ideal) (istg m c) (ix2 r l) * (k0_pay13 (F := Ideal) (k0_pay4 (istg m c)) (ix2 r l)
        + ∑ o : Fin 8, if o.val < c.val then rows m (ix2 o l) else 0)
      = ((Moe.earlier I (Moe.tok c r) + 1 : ℕ) : EReal) := by
  have hl : e.val < 128 := by omega
  rw [Finset.sum_eq_single (⟨e.val, hl⟩ : Fin 128)]
  · have hm : ∀ o : Fin 8, rows m (ix2 o ⟨e.val, hl⟩)
        = ((∑ u : Fin 512, if I (ix2 (Moe.tok o u) 0) = BitVec.ofNat 32 e.val then 1 else 0 : ℕ) : EReal) := fun o => by
      have hrow : rows m (ix2 o ⟨e.val, hl⟩) = mVal m o (ix2 0 ⟨e.val, hl⟩) := by
        refine congrArg (mVal m o) (funext fun a => ?_)
        fin_cases a <;> rfl
      refine hrow.trans ((row_count (estg m o) (istg m o) ⟨e.val, hl⟩ e.isLt).trans ?_)
      simp only [hi]
    rw [pay4_apply, hi, if_pos he, Nat.cast_one, one_mul,
      pay13_apply (k0_pay4 (istg m c)) (fun u => if I (ix2 (Moe.tok c u) 0) = BitVec.ofNat 32 e.val then 1 else 0) r ⟨e.val, hl⟩
        (fun u => by rw [pay4_apply, hi])]
    simp only [hm]
    have hz : ∀ o : Fin 8, (if o.val < c.val then ((∑ u : Fin 512, if I (ix2 (Moe.tok o u) 0) = BitVec.ofNat 32 e.val then 1 else 0 : ℕ) : EReal) else 0)
        = ((if o.val < c.val then ∑ u : Fin 512, (if I (ix2 (Moe.tok o u) 0) = BitVec.ofNat 32 e.val then 1 else 0) else 0 : ℕ) : EReal) := fun o => by
      split_ifs <;> simp
    rw [Finset.sum_congr rfl fun o _ => hz o, ← Nat.cast_sum, ← Nat.cast_add]
    refine congrArg (Nat.cast (R := EReal)) ?_
    simp only [← ite_and]
    rw [place_of_token (fun o u => I (ix2 (Moe.tok o u) 0) = BitVec.ofNat 32 e.val) c r he]
    unfold Moe.earlier
    rw [he]
    rfl
  · intro l _ hne
    rw [pay4_apply, hi, if_neg, Nat.cast_zero, zero_mul]
    intro hcon
    refine hne (Fin.ext ?_)
    have := congrArg BitVec.toNat (he.symm.trans hcon)
    rw [BitVec.toNat_ofNat, BitVec.toNat_ofNat, Nat.mod_eq_of_lt (by omega), Nat.mod_eq_of_lt (by omega)] at this
    exact this.symm
  · intro hno; exact absurd (Finset.mem_univ _) hno

include hx hi hw hn in
/-- The kernel's result at a row and a column is the token's output. -/
theorem outAt_apply (c : Dev nD) (r h : Fin 512) : outAt m c (ix2 r h) = Moe.out X I W (Moe.tok c r) h := by
  refine (pay32_apply (acc7 m c) (idW c) r h c (idW_eq c) (k0_pay4 (istg m c)) (k0_pay13 (k0_pay4 (istg m c))) (rows m)).trans ?_
  rw [acc7_apply m hx hi hw hn c r h]
  unfold Moe.out
  by_cases he : ∃ e : Fin 16, I (ix2 (Moe.tok c r) 0) = BitVec.ofNat 32 e.val
  · obtain ⟨e, he⟩ := he
    rw [place_apply m hi c r e he]
    simp only [EReal.natCast_le_iff, Nat.succ_le_iff]
    split_ifs <;> simp
  · have hz : ∑ e : Fin 16, Moe.term X I W (Moe.tok c r) h e = 0 := Finset.sum_eq_zero fun e _ => by
      unfold Moe.term Scalar.select
      rw [if_neg]
      exact fun hc => he ⟨e, (cmpi_eq_one _ _).1 hc⟩
    rw [hz, zero_mul, ite_self]

end Whole

end Cert.KernelIdeal.Exchange
-- ==== Proof.ReferenceValue.lean ====
/-
The reference's result array, entry by entry.
-/
module

public import proofs.«01_k».proof.Defs
public import proofs.«01_k».proof.Proof.Gen.ReferenceIdeal
public import proofs.«01_k».proof.Proof.Scalars
public import proofs.«01_k».proof.Proof.Meaning

@[expose] public section

noncomputable section

namespace Cert.ReferenceIdeal.Meaning

open Cert.ReferenceIdeal Cert.ReferenceIdeal.Gen Cert.Scalars Idealize.ShloMosaic

/-- The array the reference's operations make of its arguments. -/
def result {F : FTy → Type} [FloatOps F] (x : (⟨S4096x256, .bf16⟩ : BufTy).Contents (Elt F)) (i : (⟨S4096x1, .i32⟩ : BufTy).Contents (Elt F))
    (w : (⟨S16x256x512, .bf16⟩ : BufTy).Contents (Elt F)) : (⟨S4096x512, .f32⟩ : BufTy).Contents (Elt F) :=
  select (broadcastInDim S4096x512 ![0, 1] bcast_S4096x1_S4096x512_0_1 (cmpf .olt (broadcastInDim S4096x1 ![0] bcast_S4096_S4096x1_0 (Host.reduceAdd (uitofp .f32 (andi (cmpi .eq (broadcastInDim S4096x4096 ![0, 1] bcast_S1x4096_S4096x4096_0_1 (broadcastInDim S1x4096 ![1] bcast_S4096_S1x4096_1 (shapeCast _ i shapeCasts_S4096x1_S4096))) (broadcastInDim S4096x4096 ![0, 1] bcast_S4096x1_S4096x4096_0_1 i)) (cmpi .slt (broadcastInDim S4096x4096 ![0, 1] bcast_S1x4096_S4096x4096_0_1 (broadcastInDim S1x4096 ![1] bcast_S4096_S1x4096_1 (iotaInDim S4096 32 0))) (broadcastInDim S4096x4096 ![0, 1] bcast_S4096x1_S4096x4096_0_1 (broadcastInDim S4096x1 ![0] bcast_S4096_S4096x1_0 (iotaInDim S4096 32 0)))))) (constant S_ .f32 0x00000000#32) reducesTo_S4096x4096_S4096_d1 h_S_) : (⟨S4096x1, .f32⟩ : BufTy).Contents (Elt F)) (broadcastInDim S4096x1 ![] bcast_S_S4096x1 (constant S_ .f32 0x434C0000#32)))) (Host.reduceAdd (select (broadcastInDim S4096x16x512 ![0, 1, 2] bcast_S4096x16x1_S4096x16x512_0_1_2 (broadcastInDim S4096x16x1 ![0, 1] bcast_S4096x16_S4096x16x1_0_1 (cmpi .eq (broadcastInDim S4096x16 ![0, 1] bcast_S4096x1_S4096x16_0_1 i) (broadcastInDim S4096x16 ![0, 1] bcast_S1x16_S4096x16_0_1 (broadcastInDim S1x16 ![1] bcast_S16_S1x16_1 (iotaInDim S16 32 0)))))) (Host.dotGeneral dot_S4096x256_S16x256x512_S4096x16x512_1_1_0_02_n_n none (extf .f32 x bitsLt_bf16_f32) (extf .f32 (mulf (minimumf (broadcastInDim S16x256x512 ![] bcast_S_S16x256x512 (sitofp .bf16 (constantI S_ 32 127#32))) (maximumf (broadcastInDim S16x256x512 ![] bcast_S_S16x256x512 (sitofp .bf16 (constantI S_ 32 4294967168#32))) (Host.roundeven (Host.divf w (broadcastInDim S16x256x512 ![0, 1, 2] bcast_S16x1x1_S16x256x512_0_1_2 (addf (Host.divf (broadcastInDim S16x1x1 ![0] bcast_S16_S16x1x1_0 (Host.reduce FloatOps.maximumf (Host.absf w) (constant S_ .bf16 0xFF80#16) reducesTo_S16x256x512_S16_d1_2 h_S_)) (broadcastInDim S16x1x1 ![] bcast_S_S16x1x1 (constant S_ .bf16 0x42FE#16))) (broadcastInDim S16x1x1 ![] bcast_S_S16x1x1 (constant S_ .bf16 0x0DA2#16)))))))) (broadcastInDim S16x256x512 ![0, 1, 2] bcast_S16x1x1_S16x256x512_0_1_2 (addf (Host.divf (broadcastInDim S16x1x1 ![0] bcast_S16_S16x1x1_0 (Host.reduce FloatOps.maximumf (Host.absf w) (constant S_ .bf16 0xFF80#16) reducesTo_S16x256x512_S16_d1_2 h_S_)) (broadcastInDim S16x1x1 ![] bcast_S_S16x1x1 (constant S_ .bf16 0x42FE#16))) (broadcastInDim S16x1x1 ![] bcast_S_S16x1x1 (constant S_ .bf16 0x0DA2#16))))) bitsLt_bf16_f32)) (broadcastInDim S4096x16x512 ![] bcast_S_S4096x16x512 (id (constant S_ .f32 0x00000000#32)))) (constant S_ .f32 0x00000000#32) reducesTo_S4096x16x512_S4096x512_d1 h_S_) (broadcastInDim S4096x512 ![] bcast_S_S4096x512 (id (constant S_ .f32 0x00000000#32)))

/-- Its entry at a token and a column. -/
theorem result_apply (x : (⟨S4096x256, .bf16⟩ : BufTy).Contents (Elt Ideal)) (i : (⟨S4096x1, .i32⟩ : BufTy).Contents (Elt Ideal))
    (w : (⟨S16x256x512, .bf16⟩ : BufTy).Contents (Elt Ideal)) (t : Fin 4096) (h : Fin 512) : result x i w (ix2 t h) = Moe.out x i w t h := by
  unfold result
  pointwise [dot_S4096x256_S16x256x512_S4096x16x512_1_1_0_02_n_n, id_eq]
  have count : (∑ u : Fin 4096, FloatOps.uitofp (F := Ideal) FTy.f32
      (IntOp.andi (IntOp.cmpi CmpIPredicate.eq (i (ix2 u 0)) (i (ix2 t 0)))
        (IntOp.cmpi CmpIPredicate.slt (BitVec.ofNat 32 u.val) (BitVec.ofNat 32 t.val)))) = ((Moe.earlier i t : ℕ) : EReal) := by
    have e : ∀ u : Fin 4096, FloatOps.uitofp (F := Ideal) FTy.f32
      (IntOp.andi (IntOp.cmpi CmpIPredicate.eq (i (ix2 u 0)) (i (ix2 t 0)))
        (IntOp.cmpi CmpIPredicate.slt (BitVec.ofNat 32 u.val) (BitVec.ofNat 32 t.val)))
        = ((if i (ix2 u 0) = i (ix2 t 0) ∧ u.val < t.val then 1 else 0 : ℕ) : EReal) := fun u => by
      refine (bit_unsigned _).trans ?_
      simp only [andi_one, cmpi_eq_one, cmpi_slt_one (by omega : u.val < 2 ^ 31) (by omega : t.val < 2 ^ 31)]
    rw [Finset.sum_congr rfl fun u _ => e u, ← Nat.cast_sum, Fin.sum_univ_tiles 8 512 rfl]
    rfl
  unfold Moe.out
  refine if_congr ?_ ?_ rfl
  · rw [capacity]
    exact (iff_of_eq (congrArg (· < ((204 : ℕ) : EReal)) count)).trans EReal.natCast_lt_iff
  · rfl

end Cert.ReferenceIdeal.Meaning
-- ==== Proof.lean ====
/- The proof of the certificate's claims: the kernel as printed, the kernel over the extended reals and the reference run
   and keep their arguments; the second program is the first one's text; and the kernel's result on each device is its
   block of the reference's. -/
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.ReferenceIdeal.Run
public import proofs.«01_k».proof.Proof.KernelRun
public import proofs.«01_k».proof.Proof.KernelIdealValue
public import proofs.«01_k».proof.Proof.ReferenceValue
public import proofs.«01_k».proof.Proof.Gen.Pre_routed_KernelIdeal
public import proofs.«01_k».proof.Proof.Gen.Pre_routed_ReferenceIdeal

@[expose] public section

noncomputable section

namespace Cert.Proof

open Idealize.ShloMosaic Idealize.SL.Sem

/-- The kernel as printed runs on the eight devices, keeps its arguments and leaves every semaphore at zero. -/
theorem frame_kernel : Cert.quiescent_Kernel (hKernel := Cert.Kernel.Gen.facts) := fun m g _ =>
  Cert.Kernel.Exchange.run_frame m g

/-- The kernel over the extended reals runs, keeps its arguments and leaves every semaphore at zero. -/
theorem frame_kernelIdeal : Cert.quiescent_KernelIdeal (hKernelIdeal := Cert.KernelIdeal.Gen.facts) := fun m g _ =>
  Cert.KernelIdeal.Exchange.run_frame m g

/-- The reference runs, keeps its arguments and leaves every semaphore at zero. -/
theorem frame_referenceIdeal : Cert.quiescent_ReferenceIdeal (hReferenceIdeal := Cert.ReferenceIdeal.Gen.facts) := fun m g _ =>
  θ_run_mono (Cert.ReferenceIdeal.Value.run m g) fun r h =>
    ⟨fun c => (h c).2, sem_eq_zero_of_no_sems (by decide) r.2⟩

/-- A route the precondition admits is neither 16 nor 17. -/
theorem routed_ne (b : BitVec 32) (h : IntOp.ori (IntOp.cmpi .slt b 16#32) (IntOp.cmpi .sgt b 17#32) = 1#1) : b ≠ 16#32 ∧ b ≠ 17#32 :=
  ⟨fun e => absurd (e ▸ h) (by decide), fun e => absurd (e ▸ h) (by decide)⟩

/-- A row of a device's block of the whole result is the row of the device's token. -/
theorem block_row (v : (⟨2, ![4096, 512]⟩ : Shape).Idx → EReal) (c : Fin 8) (r h : Fin 512)
    (t : Layout.Tiles ⟨2, ![512, 512]⟩ ⟨2, ![4096, 512]⟩ 0 8) :
    Layout.block ⟨2, ![512, 512]⟩ ⟨2, ![4096, 512]⟩ 0 8 c v t (ix2 r h) = v (ix2 (Cert.Moe.tok c r) h) := by
  rw [Layout.block_apply]
  refine congrArg v (funext fun a => ?_)
  fin_cases a <;> rfl

/-- On each of the eight devices the kernel over the extended reals ends with its block of the array the reference ends
    with, whenever the kernel's arguments are the blocks of the reference's and no token is routed to 16 or 17. -/
theorem value : Cert.algebraic_KernelIdeal_ReferenceIdeal_pre_routed_KernelIdeal (hKernelIdeal := Cert.KernelIdeal.Gen.facts)
    (hReferenceIdeal := Cert.ReferenceIdeal.Gen.facts) (hPre_routed_KernelIdeal := Cert.Pre_routed_KernelIdeal.Gen.facts) :=
  fun m g m' g' hpre hargs => by
  let X : (⟨2, ![4096, 256]⟩ : Shape).Idx → EReal := m' (((0 : Dev Cert.ReferenceIdeal.nD).tc : Thread Cert.ReferenceIdeal.nD Cert.ReferenceIdeal.τ).loc Cert.ReferenceIdeal.main_arg0)
  let I : (⟨2, ![4096, 1]⟩ : Shape).Idx → BitVec 32 := m' (((0 : Dev Cert.ReferenceIdeal.nD).tc : Thread Cert.ReferenceIdeal.nD Cert.ReferenceIdeal.τ).loc Cert.ReferenceIdeal.main_arg2)
  let W : (⟨3, ![16, 256, 512]⟩ : Shape).Idx → EReal := m' (((0 : Dev Cert.ReferenceIdeal.nD).tc : Thread Cert.ReferenceIdeal.nD Cert.ReferenceIdeal.τ).loc Cert.ReferenceIdeal.main_arg3)
  refine ⟨Cert.ReferenceIdeal.Meaning.result X I W, ?_, ?_⟩
  · refine θ_run_mono (Cert.KernelIdeal.Exchange.run_main m g) fun r h c => ⟨?_, Cert.KernelIdeal.Exchange.args_kept m g h.1 c⟩
    refine ((h.1 c).1 (3 : Fin 4)).trans ((Cert.KernelIdeal.Exchange.finalA_out m g c).trans (funext fun j => ?_))
    have hj : j = ix2 (j 0) (j 1) := by funext a; fin_cases a <;> rfl
    rw [hj]
    refine (Cert.KernelIdeal.Exchange.outAt_apply m (X := X) (I := I) (W := W) ?_ ?_ ?_ ?_ c (j 0) (j 1)).trans (Eq.symm ?_)
    · intro c r d
      rw [Cert.KernelIdeal.Exchange.xstg_eq, (hargs c).1, Layout.block_apply]
      congr 1
      funext a; fin_cases a <;> rfl
    · intro c r
      rw [Cert.KernelIdeal.Exchange.istg_eq, (hargs c).2.2.1, Layout.block_apply]
      congr 1
      funext a; fin_cases a <;> rfl
    · intro c k d l
      rw [Cert.KernelIdeal.Exchange.estg_eq, (hargs c).2.2.2, Layout.block_apply]
      congr 1
      funext a; fin_cases a <;> rfl
    · intro c r
      rw [Cert.KernelIdeal.Exchange.istg_eq]
      exact routed_ne _ (congrFun (hpre c) (ix2 r 0))
    · exact (block_row _ c (j 0) (j 1) _).trans (Cert.ReferenceIdeal.Meaning.result_apply X I W (Cert.Moe.tok c (j 0)) (j 1))
  · exact θ_run_mono (Cert.ReferenceIdeal.Value.run m' g') fun r h => h 0

theorem claim : Cert.Claim := ⟨Cert.Kernel.Gen.facts, Cert.KernelIdeal.Gen.facts, Cert.ReferenceIdeal.Gen.facts,
  Cert.Pre_routed_KernelIdeal.Gen.facts, Cert.Pre_routed_ReferenceIdeal.Gen.facts,
  frame_kernel, frame_kernelIdeal, fun m g _ => frame_kernelIdeal m g trivial, frame_referenceIdeal,
  fun m g _ => frame_referenceIdeal m g trivial, trivial, value⟩

end Cert.Proof

end
